-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S128x4096 : Shape := ⟨2, ![128, 4096]⟩
abbrev S2x256x8192 : Shape := ⟨3, ![2, 256, 8192]⟩
abbrev S32 : Shape := ⟨1, ![32]⟩
abbrev S2 : Shape := ⟨1, ![2]⟩
abbrev S_ : Shape := ⟨0, ![]⟩
abbrev S1 : Shape := ⟨1, ![1]⟩
abbrev S1x256x8192 : Shape := ⟨3, ![1, 256, 8192]⟩
abbrev S256x8192 : Shape := ⟨2, ![256, 8192]⟩
abbrev S128x128 : Shape := ⟨2, ![128, 128]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S4096x128, .bf16⟩
  | .local _ .vmem, ⟨3, _⟩ => ⟨S128x4096, .bf16⟩
  | .local _ .vmem, ⟨4, _⟩ => ⟨S2x256x8192, .f32⟩
  | .local _ .vmem, ⟨5, _⟩ => ⟨S2x256x8192, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4 : BitVec 32 := 2#32
  let v9 : BitVec 32 := Scalar.addi v2 c2_i32_4
  let c32_i32_5 : BitVec 32 := 32#32
  let v10 : BitVec 32 := Scalar.remsi v9 c32_i32_5
  let c1_i32_7 : BitVec 32 := 1#32
  let v11 : BitVec 32 := Scalar.muli v10 c1_i32_7
  let v12 : BitVec 32 := Scalar.addi c0_i32_8 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 32 := Scalar.addi v2 c3_i32
  let c32_i32_9 : BitVec 32 := 32#32
  let v14 : BitVec 32 := Scalar.remsi v13 c32_i32_9
  let c1_i32_11 : BitVec 32 := 1#32
  let v15 : BitVec 32 := Scalar.muli v14 c1_i32_11
  let v16 : BitVec 32 := Scalar.addi c0_i32_12 v15
  v16.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v17 : BitVec 32 := Scalar.addi v2 c4_i32
  let c32_i32_13 : BitVec 32 := 32#32
  let v18 : BitVec 32 := Scalar.remsi v17 c32_i32_13
  let c1_i32_15 : BitVec 32 := 1#32
  let v19 : BitVec 32 := Scalar.muli v18 c1_i32_15
  let v20 : BitVec 32 := Scalar.addi c0_i32_16 v19
  v20.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v21 : BitVec 32 := Scalar.addi v2 c5_i32
  let c32_i32_17 : BitVec 32 := 32#32
  let v22 : BitVec 32 := Scalar.remsi v21 c32_i32_17
  let c1_i32_19 : BitVec 32 := 1#32
  let v23 : BitVec 32 := Scalar.muli v22 c1_i32_19
  let v24 : BitVec 32 := Scalar.addi c0_i32_20 v23
  v24.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v25 : BitVec 32 := Scalar.addi v2 c6_i32
  let c32_i32_21 : BitVec 32 := 32#32
  let v26 : BitVec 32 := Scalar.remsi v25 c32_i32_21
  let c1_i32_23 : BitVec 32 := 1#32
  let v27 : BitVec 32 := Scalar.muli v26 c1_i32_23
  let v28 : BitVec 32 := Scalar.addi c0_i32_24 v27
  v28.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v29 : BitVec 32 := Scalar.addi v2 c7_i32
  let c32_i32_25 : BitVec 32 := 32#32
  let v30 : BitVec 32 := Scalar.remsi v29 c32_i32_25
  let c1_i32_27 : BitVec 32 := 1#32
  let v31 : BitVec 32 := Scalar.muli v30 c1_i32_27
  let v32 : BitVec 32 := Scalar.addi c0_i32_28 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v33 : BitVec 32 := Scalar.addi v2 c8_i32
  let c32_i32_29 : BitVec 32 := 32#32
  let v34 : BitVec 32 := Scalar.remsi v33 c32_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v37 : BitVec 32 := Scalar.addi v2 c9_i32
  let c32_i32_33 : BitVec 32 := 32#32
  let v38 : BitVec 32 := Scalar.remsi v37 c32_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v41 : BitVec 32 := Scalar.addi v2 c10_i32
  let c32_i32_37 : BitVec 32 := 32#32
  let v42 : BitVec 32 := Scalar.remsi v41 c32_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v45 : BitVec 32 := Scalar.addi v2 c11_i32
  let c32_i32_41 : BitVec 32 := 32#32
  let v46 : BitVec 32 := Scalar.remsi v45 c32_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v49 : BitVec 32 := Scalar.addi v2 c12_i32
  let c32_i32_45 : BitVec 32 := 32#32
  let v50 : BitVec 32 := Scalar.remsi v49 c32_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v53 : BitVec 32 := Scalar.addi v2 c13_i32
  let c32_i32_49 : BitVec 32 := 32#32
  let v54 : BitVec 32 := Scalar.remsi v53 c32_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v57 : BitVec 32 := Scalar.addi v2 c14_i32
  let c32_i32_53 : BitVec 32 := 32#32
  let v58 : BitVec 32 := Scalar.remsi v57 c32_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v61 : BitVec 32 := Scalar.addi v2 c15_i32
  let c32_i32_57 : BitVec 32 := 32#32
  let v62 : BitVec 32 := Scalar.remsi v61 c32_i32_57
  let c1_i32_59 : BitVec 32 := 1#32
  let v63 : BitVec 32 := Scalar.muli v62 c1_i32_59
  let v64 : BitVec 32 := Scalar.addi c0_i32_60 v63
  v64.toNat
def k0_dev16 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v65 : BitVec 32 := Scalar.addi v2 c16_i32
  let c32_i32_61 : BitVec 32 := 32#32
  let v66 : BitVec 32 := Scalar.remsi v65 c32_i32_61
  let c1_i32_63 : BitVec 32 := 1#32
  let v67 : BitVec 32 := Scalar.muli v66 c1_i32_63
  let v68 : BitVec 32 := Scalar.addi c0_i32_64 v67
  v68.toNat
def k0_dev17 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v69 : BitVec 32 := Scalar.addi v2 c17_i32
  let c32_i32_65 : BitVec 32 := 32#32
  let v70 : BitVec 32 := Scalar.remsi v69 c32_i32_65
  let c1_i32_67 : BitVec 32 := 1#32
  let v71 : BitVec 32 := Scalar.muli v70 c1_i32_67
  let v72 : BitVec 32 := Scalar.addi c0_i32_68 v71
  v72.toNat
def k0_dev18 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v73 : BitVec 32 := Scalar.addi v2 c18_i32
  let c32_i32_69 : BitVec 32 := 32#32
  let v74 : BitVec 32 := Scalar.remsi v73 c32_i32_69
  let c1_i32_71 : BitVec 32 := 1#32
  let v75 : BitVec 32 := Scalar.muli v74 c1_i32_71
  let v76 : BitVec 32 := Scalar.addi c0_i32_72 v75
  v76.toNat
def k0_dev19 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v77 : BitVec 32 := Scalar.addi v2 c19_i32
  let c32_i32_73 : BitVec 32 := 32#32
  let v78 : BitVec 32 := Scalar.remsi v77 c32_i32_73
  let c1_i32_75 : BitVec 32 := 1#32
  let v79 : BitVec 32 := Scalar.muli v78 c1_i32_75
  let v80 : BitVec 32 := Scalar.addi c0_i32_76 v79
  v80.toNat
def k0_dev20 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v81 : BitVec 32 := Scalar.addi v2 c20_i32
  let c32_i32_77 : BitVec 32 := 32#32
  let v82 : BitVec 32 := Scalar.remsi v81 c32_i32_77
  let c1_i32_79 : BitVec 32 := 1#32
  let v83 : BitVec 32 := Scalar.muli v82 c1_i32_79
  let v84 : BitVec 32 := Scalar.addi c0_i32_80 v83
  v84.toNat
def k0_dev21 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v85 : BitVec 32 := Scalar.addi v2 c21_i32
  let c32_i32_81 : BitVec 32 := 32#32
  let v86 : BitVec 32 := Scalar.remsi v85 c32_i32_81
  let c1_i32_83 : BitVec 32 := 1#32
  let v87 : BitVec 32 := Scalar.muli v86 c1_i32_83
  let v88 : BitVec 32 := Scalar.addi c0_i32_84 v87
  v88.toNat
def k0_dev22 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v89 : BitVec 32 := Scalar.addi v2 c22_i32
  let c32_i32_85 : BitVec 32 := 32#32
  let v90 : BitVec 32 := Scalar.remsi v89 c32_i32_85
  let c1_i32_87 : BitVec 32 := 1#32
  let v91 : BitVec 32 := Scalar.muli v90 c1_i32_87
  let v92 : BitVec 32 := Scalar.addi c0_i32_88 v91
  v92.toNat
def k0_dev23 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v93 : BitVec 32 := Scalar.addi v2 c23_i32
  let c32_i32_89 : BitVec 32 := 32#32
  let v94 : BitVec 32 := Scalar.remsi v93 c32_i32_89
  let c1_i32_91 : BitVec 32 := 1#32
  let v95 : BitVec 32 := Scalar.muli v94 c1_i32_91
  let v96 : BitVec 32 := Scalar.addi c0_i32_92 v95
  v96.toNat
def k0_dev24 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v97 : BitVec 32 := Scalar.addi v2 c24_i32
  let c32_i32_93 : BitVec 32 := 32#32
  let v98 : BitVec 32 := Scalar.remsi v97 c32_i32_93
  let c1_i32_95 : BitVec 32 := 1#32
  let v99 : BitVec 32 := Scalar.muli v98 c1_i32_95
  let v100 : BitVec 32 := Scalar.addi c0_i32_96 v99
  v100.toNat
def k0_dev25 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v101 : BitVec 32 := Scalar.addi v2 c25_i32
  let c32_i32_97 : BitVec 32 := 32#32
  let v102 : BitVec 32 := Scalar.remsi v101 c32_i32_97
  let c1_i32_99 : BitVec 32 := 1#32
  let v103 : BitVec 32 := Scalar.muli v102 c1_i32_99
  let v104 : BitVec 32 := Scalar.addi c0_i32_100 v103
  v104.toNat
def k0_dev26 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v105 : BitVec 32 := Scalar.addi v2 c26_i32
  let c32_i32_101 : BitVec 32 := 32#32
  let v106 : BitVec 32 := Scalar.remsi v105 c32_i32_101
  let c1_i32_103 : BitVec 32 := 1#32
  let v107 : BitVec 32 := Scalar.muli v106 c1_i32_103
  let v108 : BitVec 32 := Scalar.addi c0_i32_104 v107
  v108.toNat
def k0_dev27 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v109 : BitVec 32 := Scalar.addi v2 c27_i32
  let c32_i32_105 : BitVec 32 := 32#32
  let v110 : BitVec 32 := Scalar.remsi v109 c32_i32_105
  let c1_i32_107 : BitVec 32 := 1#32
  let v111 : BitVec 32 := Scalar.muli v110 c1_i32_107
  let v112 : BitVec 32 := Scalar.addi c0_i32_108 v111
  v112.toNat
def k0_dev28 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v113 : BitVec 32 := Scalar.addi v2 c28_i32
  let c32_i32_109 : BitVec 32 := 32#32
  let v114 : BitVec 32 := Scalar.remsi v113 c32_i32_109
  let c1_i32_111 : BitVec 32 := 1#32
  let v115 : BitVec 32 := Scalar.muli v114 c1_i32_111
  let v116 : BitVec 32 := Scalar.addi c0_i32_112 v115
  v116.toNat
def k0_dev29 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v117 : BitVec 32 := Scalar.addi v2 c29_i32
  let c32_i32_113 : BitVec 32 := 32#32
  let v118 : BitVec 32 := Scalar.remsi v117 c32_i32_113
  let c1_i32_115 : BitVec 32 := 1#32
  let v119 : BitVec 32 := Scalar.muli v118 c1_i32_115
  let v120 : BitVec 32 := Scalar.addi c0_i32_116 v119
  v120.toNat
def k0_dev30 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v121 : BitVec 32 := Scalar.addi v2 c30_i32
  let c32_i32_117 : BitVec 32 := 32#32
  let v122 : BitVec 32 := Scalar.remsi v121 c32_i32_117
  let c1_i32_119 : BitVec 32 := 1#32
  let v123 : BitVec 32 := Scalar.muli v122 c1_i32_119
  let v124 : BitVec 32 := Scalar.addi c0_i32_120 v123
  v124.toNat
def k0_dev31 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v125 : BitVec 32 := Scalar.addi v2 c31_i32
  let c32_i32_121 : BitVec 32 := 32#32
  let v126 : BitVec 32 := Scalar.remsi v125 c32_i32_121
  let c1_i32_123 : BitVec 32 := 1#32
  let v127 : BitVec 32 := Scalar.muli v126 c1_i32_123
  let v128 : BitVec 32 := Scalar.addi c0_i32_124 v127
  v128.toNat
def k0_off1 (d0 : Dev nD) (c0_i32_126 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let v129 : BitVec 32 := Scalar.addi v3 c0_i32_126
  let c16_i32_127 : BitVec 32 := 16#32
  let v130 : BitVec 32 := Scalar.remsi v129 c16_i32_127
  let c256_i32 : BitVec 32 := 256#32
  let v131 : BitVec 32 := Scalar.muli v130 c256_i32
  let c0_i32_132 : BitVec 32 := 0#32
  ![v131.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v151 : BitVec 32 := Scalar.muli v2 c128_i32
  let v152 : Index := Scalar.indexCast v151
  let c0_144 : Index := 0#32
  ![v152.toNat, 0]
def k0_off3 (d0 : Dev nD) : Fin 2 → Nat :=
  let c0_146 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_145 : BitVec 32 := 128#32
  let v154 : BitVec 32 := Scalar.muli v2 c128_i32_145
  let v155 : Index := Scalar.indexCast v154
  ![0, v155.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_151 : BitVec 32 := 128#32
  let v163 : BitVec 32 := Scalar.muli v2 c128_i32_151
  ![0, v163.toNat]
def k0_off6 (d0 : Dev nD) (c1_i32_147 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v159 : BitVec 32 := Scalar.subi v2 c1_i32_147
  let c32_i32_148 : BitVec 32 := 32#32
  let v160 : BitVec 32 := Scalar.addi v159 c32_i32_148
  let c32_i32_149 : BitVec 32 := 32#32
  let v161 : BitVec 32 := Scalar.remsi v160 c32_i32_149
  let c128_i32_150 : BitVec 32 := 128#32
  let v162 : BitVec 32 := Scalar.muli v161 c128_i32_150
  let c0_i32_156 : BitVec 32 := 0#32
  ![v162.toNat, 0]
def k0_dev32 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_147 : BitVec 32 := 1#32
  let v159 : BitVec 32 := Scalar.subi v2 c1_i32_147
  let c32_i32_148 : BitVec 32 := 32#32
  let v160 : BitVec 32 := Scalar.addi v159 c32_i32_148
  let c32_i32_149 : BitVec 32 := 32#32
  let v161 : BitVec 32 := Scalar.remsi v160 c32_i32_149
  let c1_i32_153 : BitVec 32 := 1#32
  let v164 : BitVec 32 := Scalar.muli v161 c1_i32_153
  let v165 : BitVec 32 := Scalar.addi c0_i32_154 v164
  v165.toNat
def k0_dev33 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_157 : BitVec 32 := 2#32
  let v172 : BitVec 32 := Scalar.subi v2 c2_i32_157
  let c32_i32_158 : BitVec 32 := 32#32
  let v173 : BitVec 32 := Scalar.addi v172 c32_i32_158
  let c32_i32_159 : BitVec 32 := 32#32
  let v174 : BitVec 32 := Scalar.remsi v173 c32_i32_159
  let c1_i32_163 : BitVec 32 := 1#32
  let v177 : BitVec 32 := Scalar.muli v174 c1_i32_163
  let v178 : BitVec 32 := Scalar.addi c0_i32_164 v177
  v178.toNat
def k0_dev34 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_167 : BitVec 32 := 3#32
  let v185 : BitVec 32 := Scalar.subi v2 c3_i32_167
  let c32_i32_168 : BitVec 32 := 32#32
  let v186 : BitVec 32 := Scalar.addi v185 c32_i32_168
  let c32_i32_169 : BitVec 32 := 32#32
  let v187 : BitVec 32 := Scalar.remsi v186 c32_i32_169
  let c1_i32_173 : BitVec 32 := 1#32
  let v190 : BitVec 32 := Scalar.muli v187 c1_i32_173
  let v191 : BitVec 32 := Scalar.addi c0_i32_174 v190
  v191.toNat
def k0_dev35 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_177 : BitVec 32 := 4#32
  let v198 : BitVec 32 := Scalar.subi v2 c4_i32_177
  let c32_i32_178 : BitVec 32 := 32#32
  let v199 : BitVec 32 := Scalar.addi v198 c32_i32_178
  let c32_i32_179 : BitVec 32 := 32#32
  let v200 : BitVec 32 := Scalar.remsi v199 c32_i32_179
  let c1_i32_183 : BitVec 32 := 1#32
  let v203 : BitVec 32 := Scalar.muli v200 c1_i32_183
  let v204 : BitVec 32 := Scalar.addi c0_i32_184 v203
  v204.toNat
def k0_dev36 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_187 : BitVec 32 := 5#32
  let v211 : BitVec 32 := Scalar.subi v2 c5_i32_187
  let c32_i32_188 : BitVec 32 := 32#32
  let v212 : BitVec 32 := Scalar.addi v211 c32_i32_188
  let c32_i32_189 : BitVec 32 := 32#32
  let v213 : BitVec 32 := Scalar.remsi v212 c32_i32_189
  let c1_i32_193 : BitVec 32 := 1#32
  let v216 : BitVec 32 := Scalar.muli v213 c1_i32_193
  let v217 : BitVec 32 := Scalar.addi c0_i32_194 v216
  v217.toNat
def k0_dev37 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_197 : BitVec 32 := 6#32
  let v224 : BitVec 32 := Scalar.subi v2 c6_i32_197
  let c32_i32_198 : BitVec 32 := 32#32
  let v225 : BitVec 32 := Scalar.addi v224 c32_i32_198
  let c32_i32_199 : BitVec 32 := 32#32
  let v226 : BitVec 32 := Scalar.remsi v225 c32_i32_199
  let c1_i32_203 : BitVec 32 := 1#32
  let v229 : BitVec 32 := Scalar.muli v226 c1_i32_203
  let v230 : BitVec 32 := Scalar.addi c0_i32_204 v229
  v230.toNat
def k0_dev38 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_207 : BitVec 32 := 7#32
  let v237 : BitVec 32 := Scalar.subi v2 c7_i32_207
  let c32_i32_208 : BitVec 32 := 32#32
  let v238 : BitVec 32 := Scalar.addi v237 c32_i32_208
  let c32_i32_209 : BitVec 32 := 32#32
  let v239 : BitVec 32 := Scalar.remsi v238 c32_i32_209
  let c1_i32_213 : BitVec 32 := 1#32
  let v242 : BitVec 32 := Scalar.muli v239 c1_i32_213
  let v243 : BitVec 32 := Scalar.addi c0_i32_214 v242
  v243.toNat
def k0_dev39 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_217 : BitVec 32 := 8#32
  let v250 : BitVec 32 := Scalar.subi v2 c8_i32_217
  let c32_i32_218 : BitVec 32 := 32#32
  let v251 : BitVec 32 := Scalar.addi v250 c32_i32_218
  let c32_i32_219 : BitVec 32 := 32#32
  let v252 : BitVec 32 := Scalar.remsi v251 c32_i32_219
  let c1_i32_223 : BitVec 32 := 1#32
  let v255 : BitVec 32 := Scalar.muli v252 c1_i32_223
  let v256 : BitVec 32 := Scalar.addi c0_i32_224 v255
  v256.toNat
def k0_dev40 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_227 : BitVec 32 := 9#32
  let v263 : BitVec 32 := Scalar.subi v2 c9_i32_227
  let c32_i32_228 : BitVec 32 := 32#32
  let v264 : BitVec 32 := Scalar.addi v263 c32_i32_228
  let c32_i32_229 : BitVec 32 := 32#32
  let v265 : BitVec 32 := Scalar.remsi v264 c32_i32_229
  let c1_i32_233 : BitVec 32 := 1#32
  let v268 : BitVec 32 := Scalar.muli v265 c1_i32_233
  let v269 : BitVec 32 := Scalar.addi c0_i32_234 v268
  v269.toNat
def k0_dev41 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_237 : BitVec 32 := 10#32
  let v276 : BitVec 32 := Scalar.subi v2 c10_i32_237
  let c32_i32_238 : BitVec 32 := 32#32
  let v277 : BitVec 32 := Scalar.addi v276 c32_i32_238
  let c32_i32_239 : BitVec 32 := 32#32
  let v278 : BitVec 32 := Scalar.remsi v277 c32_i32_239
  let c1_i32_243 : BitVec 32 := 1#32
  let v281 : BitVec 32 := Scalar.muli v278 c1_i32_243
  let v282 : BitVec 32 := Scalar.addi c0_i32_244 v281
  v282.toNat
def k0_dev42 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_247 : BitVec 32 := 11#32
  let v289 : BitVec 32 := Scalar.subi v2 c11_i32_247
  let c32_i32_248 : BitVec 32 := 32#32
  let v290 : BitVec 32 := Scalar.addi v289 c32_i32_248
  let c32_i32_249 : BitVec 32 := 32#32
  let v291 : BitVec 32 := Scalar.remsi v290 c32_i32_249
  let c1_i32_253 : BitVec 32 := 1#32
  let v294 : BitVec 32 := Scalar.muli v291 c1_i32_253
  let v295 : BitVec 32 := Scalar.addi c0_i32_254 v294
  v295.toNat
def k0_dev43 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_257 : BitVec 32 := 12#32
  let v302 : BitVec 32 := Scalar.subi v2 c12_i32_257
  let c32_i32_258 : BitVec 32 := 32#32
  let v303 : BitVec 32 := Scalar.addi v302 c32_i32_258
  let c32_i32_259 : BitVec 32 := 32#32
  let v304 : BitVec 32 := Scalar.remsi v303 c32_i32_259
  let c1_i32_263 : BitVec 32 := 1#32
  let v307 : BitVec 32 := Scalar.muli v304 c1_i32_263
  let v308 : BitVec 32 := Scalar.addi c0_i32_264 v307
  v308.toNat
def k0_dev44 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_267 : BitVec 32 := 13#32
  let v315 : BitVec 32 := Scalar.subi v2 c13_i32_267
  let c32_i32_268 : BitVec 32 := 32#32
  let v316 : BitVec 32 := Scalar.addi v315 c32_i32_268
  let c32_i32_269 : BitVec 32 := 32#32
  let v317 : BitVec 32 := Scalar.remsi v316 c32_i32_269
  let c1_i32_273 : BitVec 32 := 1#32
  let v320 : BitVec 32 := Scalar.muli v317 c1_i32_273
  let v321 : BitVec 32 := Scalar.addi c0_i32_274 v320
  v321.toNat
def k0_dev45 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_277 : BitVec 32 := 14#32
  let v328 : BitVec 32 := Scalar.subi v2 c14_i32_277
  let c32_i32_278 : BitVec 32 := 32#32
  let v329 : BitVec 32 := Scalar.addi v328 c32_i32_278
  let c32_i32_279 : BitVec 32 := 32#32
  let v330 : BitVec 32 := Scalar.remsi v329 c32_i32_279
  let c1_i32_283 : BitVec 32 := 1#32
  let v333 : BitVec 32 := Scalar.muli v330 c1_i32_283
  let v334 : BitVec 32 := Scalar.addi c0_i32_284 v333
  v334.toNat
def k0_dev46 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_287 : BitVec 32 := 15#32
  let v341 : BitVec 32 := Scalar.subi v2 c15_i32_287
  let c32_i32_288 : BitVec 32 := 32#32
  let v342 : BitVec 32 := Scalar.addi v341 c32_i32_288
  let c32_i32_289 : BitVec 32 := 32#32
  let v343 : BitVec 32 := Scalar.remsi v342 c32_i32_289
  let c1_i32_293 : BitVec 32 := 1#32
  let v346 : BitVec 32 := Scalar.muli v343 c1_i32_293
  let v347 : BitVec 32 := Scalar.addi c0_i32_294 v346
  v347.toNat
def k0_dev47 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_297 : BitVec 32 := 16#32
  let v354 : BitVec 32 := Scalar.subi v2 c16_i32_297
  let c32_i32_298 : BitVec 32 := 32#32
  let v355 : BitVec 32 := Scalar.addi v354 c32_i32_298
  let c32_i32_299 : BitVec 32 := 32#32
  let v356 : BitVec 32 := Scalar.remsi v355 c32_i32_299
  let c1_i32_303 : BitVec 32 := 1#32
  let v359 : BitVec 32 := Scalar.muli v356 c1_i32_303
  let v360 : BitVec 32 := Scalar.addi c0_i32_304 v359
  v360.toNat
def k0_dev48 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_307 : BitVec 32 := 17#32
  let v367 : BitVec 32 := Scalar.subi v2 c17_i32_307
  let c32_i32_308 : BitVec 32 := 32#32
  let v368 : BitVec 32 := Scalar.addi v367 c32_i32_308
  let c32_i32_309 : BitVec 32 := 32#32
  let v369 : BitVec 32 := Scalar.remsi v368 c32_i32_309
  let c1_i32_313 : BitVec 32 := 1#32
  let v372 : BitVec 32 := Scalar.muli v369 c1_i32_313
  let v373 : BitVec 32 := Scalar.addi c0_i32_314 v372
  v373.toNat
def k0_dev49 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_317 : BitVec 32 := 18#32
  let v380 : BitVec 32 := Scalar.subi v2 c18_i32_317
  let c32_i32_318 : BitVec 32 := 32#32
  let v381 : BitVec 32 := Scalar.addi v380 c32_i32_318
  let c32_i32_319 : BitVec 32 := 32#32
  let v382 : BitVec 32 := Scalar.remsi v381 c32_i32_319
  let c1_i32_323 : BitVec 32 := 1#32
  let v385 : BitVec 32 := Scalar.muli v382 c1_i32_323
  let v386 : BitVec 32 := Scalar.addi c0_i32_324 v385
  v386.toNat
def k0_dev50 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_327 : BitVec 32 := 19#32
  let v393 : BitVec 32 := Scalar.subi v2 c19_i32_327
  let c32_i32_328 : BitVec 32 := 32#32
  let v394 : BitVec 32 := Scalar.addi v393 c32_i32_328
  let c32_i32_329 : BitVec 32 := 32#32
  let v395 : BitVec 32 := Scalar.remsi v394 c32_i32_329
  let c1_i32_333 : BitVec 32 := 1#32
  let v398 : BitVec 32 := Scalar.muli v395 c1_i32_333
  let v399 : BitVec 32 := Scalar.addi c0_i32_334 v398
  v399.toNat
def k0_dev51 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_337 : BitVec 32 := 20#32
  let v406 : BitVec 32 := Scalar.subi v2 c20_i32_337
  let c32_i32_338 : BitVec 32 := 32#32
  let v407 : BitVec 32 := Scalar.addi v406 c32_i32_338
  let c32_i32_339 : BitVec 32 := 32#32
  let v408 : BitVec 32 := Scalar.remsi v407 c32_i32_339
  let c1_i32_343 : BitVec 32 := 1#32
  let v411 : BitVec 32 := Scalar.muli v408 c1_i32_343
  let v412 : BitVec 32 := Scalar.addi c0_i32_344 v411
  v412.toNat
def k0_dev52 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_347 : BitVec 32 := 21#32
  let v419 : BitVec 32 := Scalar.subi v2 c21_i32_347
  let c32_i32_348 : BitVec 32 := 32#32
  let v420 : BitVec 32 := Scalar.addi v419 c32_i32_348
  let c32_i32_349 : BitVec 32 := 32#32
  let v421 : BitVec 32 := Scalar.remsi v420 c32_i32_349
  let c1_i32_353 : BitVec 32 := 1#32
  let v424 : BitVec 32 := Scalar.muli v421 c1_i32_353
  let v425 : BitVec 32 := Scalar.addi c0_i32_354 v424
  v425.toNat
def k0_dev53 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_357 : BitVec 32 := 22#32
  let v432 : BitVec 32 := Scalar.subi v2 c22_i32_357
  let c32_i32_358 : BitVec 32 := 32#32
  let v433 : BitVec 32 := Scalar.addi v432 c32_i32_358
  let c32_i32_359 : BitVec 32 := 32#32
  let v434 : BitVec 32 := Scalar.remsi v433 c32_i32_359
  let c1_i32_363 : BitVec 32 := 1#32
  let v437 : BitVec 32 := Scalar.muli v434 c1_i32_363
  let v438 : BitVec 32 := Scalar.addi c0_i32_364 v437
  v438.toNat
def k0_dev54 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_367 : BitVec 32 := 23#32
  let v445 : BitVec 32 := Scalar.subi v2 c23_i32_367
  let c32_i32_368 : BitVec 32 := 32#32
  let v446 : BitVec 32 := Scalar.addi v445 c32_i32_368
  let c32_i32_369 : BitVec 32 := 32#32
  let v447 : BitVec 32 := Scalar.remsi v446 c32_i32_369
  let c1_i32_373 : BitVec 32 := 1#32
  let v450 : BitVec 32 := Scalar.muli v447 c1_i32_373
  let v451 : BitVec 32 := Scalar.addi c0_i32_374 v450
  v451.toNat
def k0_dev55 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_377 : BitVec 32 := 24#32
  let v458 : BitVec 32 := Scalar.subi v2 c24_i32_377
  let c32_i32_378 : BitVec 32 := 32#32
  let v459 : BitVec 32 := Scalar.addi v458 c32_i32_378
  let c32_i32_379 : BitVec 32 := 32#32
  let v460 : BitVec 32 := Scalar.remsi v459 c32_i32_379
  let c1_i32_383 : BitVec 32 := 1#32
  let v463 : BitVec 32 := Scalar.muli v460 c1_i32_383
  let v464 : BitVec 32 := Scalar.addi c0_i32_384 v463
  v464.toNat
def k0_dev56 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_387 : BitVec 32 := 25#32
  let v471 : BitVec 32 := Scalar.subi v2 c25_i32_387
  let c32_i32_388 : BitVec 32 := 32#32
  let v472 : BitVec 32 := Scalar.addi v471 c32_i32_388
  let c32_i32_389 : BitVec 32 := 32#32
  let v473 : BitVec 32 := Scalar.remsi v472 c32_i32_389
  let c1_i32_393 : BitVec 32 := 1#32
  let v476 : BitVec 32 := Scalar.muli v473 c1_i32_393
  let v477 : BitVec 32 := Scalar.addi c0_i32_394 v476
  v477.toNat
def k0_dev57 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_397 : BitVec 32 := 26#32
  let v484 : BitVec 32 := Scalar.subi v2 c26_i32_397
  let c32_i32_398 : BitVec 32 := 32#32
  let v485 : BitVec 32 := Scalar.addi v484 c32_i32_398
  let c32_i32_399 : BitVec 32 := 32#32
  let v486 : BitVec 32 := Scalar.remsi v485 c32_i32_399
  let c1_i32_403 : BitVec 32 := 1#32
  let v489 : BitVec 32 := Scalar.muli v486 c1_i32_403
  let v490 : BitVec 32 := Scalar.addi c0_i32_404 v489
  v490.toNat
def k0_dev58 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_407 : BitVec 32 := 27#32
  let v497 : BitVec 32 := Scalar.subi v2 c27_i32_407
  let c32_i32_408 : BitVec 32 := 32#32
  let v498 : BitVec 32 := Scalar.addi v497 c32_i32_408
  let c32_i32_409 : BitVec 32 := 32#32
  let v499 : BitVec 32 := Scalar.remsi v498 c32_i32_409
  let c1_i32_413 : BitVec 32 := 1#32
  let v502 : BitVec 32 := Scalar.muli v499 c1_i32_413
  let v503 : BitVec 32 := Scalar.addi c0_i32_414 v502
  v503.toNat
def k0_dev59 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_417 : BitVec 32 := 28#32
  let v510 : BitVec 32 := Scalar.subi v2 c28_i32_417
  let c32_i32_418 : BitVec 32 := 32#32
  let v511 : BitVec 32 := Scalar.addi v510 c32_i32_418
  let c32_i32_419 : BitVec 32 := 32#32
  let v512 : BitVec 32 := Scalar.remsi v511 c32_i32_419
  let c1_i32_423 : BitVec 32 := 1#32
  let v515 : BitVec 32 := Scalar.muli v512 c1_i32_423
  let v516 : BitVec 32 := Scalar.addi c0_i32_424 v515
  v516.toNat
def k0_dev60 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_427 : BitVec 32 := 29#32
  let v523 : BitVec 32 := Scalar.subi v2 c29_i32_427
  let c32_i32_428 : BitVec 32 := 32#32
  let v524 : BitVec 32 := Scalar.addi v523 c32_i32_428
  let c32_i32_429 : BitVec 32 := 32#32
  let v525 : BitVec 32 := Scalar.remsi v524 c32_i32_429
  let c1_i32_433 : BitVec 32 := 1#32
  let v528 : BitVec 32 := Scalar.muli v525 c1_i32_433
  let v529 : BitVec 32 := Scalar.addi c0_i32_434 v528
  v529.toNat
def k0_dev61 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_437 : BitVec 32 := 30#32
  let v536 : BitVec 32 := Scalar.subi v2 c30_i32_437
  let c32_i32_438 : BitVec 32 := 32#32
  let v537 : BitVec 32 := Scalar.addi v536 c32_i32_438
  let c32_i32_439 : BitVec 32 := 32#32
  let v538 : BitVec 32 := Scalar.remsi v537 c32_i32_439
  let c1_i32_443 : BitVec 32 := 1#32
  let v541 : BitVec 32 := Scalar.muli v538 c1_i32_443
  let v542 : BitVec 32 := Scalar.addi c0_i32_444 v541
  v542.toNat
def k0_dev62 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_447 : BitVec 32 := 31#32
  let v549 : BitVec 32 := Scalar.subi v2 c31_i32_447
  let c32_i32_448 : BitVec 32 := 32#32
  let v550 : BitVec 32 := Scalar.addi v549 c32_i32_448
  let c32_i32_449 : BitVec 32 := 32#32
  let v551 : BitVec 32 := Scalar.remsi v550 c32_i32_449
  let c1_i32_453 : BitVec 32 := 1#32
  let v554 : BitVec 32 := Scalar.muli v551 c1_i32_453
  let v555 : BitVec 32 := Scalar.addi c0_i32_454 v554
  v555.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c0_i32_457 : BitVec 32 := 0#32
  let v562 : BitVec 32 := Scalar.addi v3 c0_i32_457
  let c16_i32_458 : BitVec 32 := 16#32
  let v563 : BitVec 32 := Scalar.remsi v562 c16_i32_458
  let c2_i32_459 : BitVec 32 := 2#32
  let v564 : BitVec 32 := Scalar.muli v563 c2_i32_459
  let c0_i32_460 : BitVec 32 := 0#32
  let v565 : BitVec 32 := Scalar.addi v564 c0_i32_460
  let v566 : BitVec 1 := Scalar.cmpi .eq v565 v2
  let true_461 : BitVec 1 := 1#1
  let v567 : BitVec 1 := Scalar.xori v566 true_461
  let v568 : BitVec 32 := Scalar.extui v567
  let c0_i32_462 : BitVec 32 := 0#32
  let v569 : BitVec 1 := Scalar.cmpi .ne v568 c0_i32_462
  v569

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c0_i32_457 : BitVec 32 := 0#32
  let v562 : BitVec 32 := Scalar.addi v3 c0_i32_457
  let c16_i32_458 : BitVec 32 := 16#32
  let v563 : BitVec 32 := Scalar.remsi v562 c16_i32_458
  let c2_i32_459 : BitVec 32 := 2#32
  let v564 : BitVec 32 := Scalar.muli v563 c2_i32_459
  let c0_i32_460 : BitVec 32 := 0#32
  let v565 : BitVec 32 := Scalar.addi v564 c0_i32_460
  ![v565.toNat]
def k0_off8 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c0_i32_457 : BitVec 32 := 0#32
  let v562 : BitVec 32 := Scalar.addi v3 c0_i32_457
  let c16_i32_458 : BitVec 32 := 16#32
  let v563 : BitVec 32 := Scalar.remsi v562 c16_i32_458
  let c2_i32_459 : BitVec 32 := 2#32
  let v564 : BitVec 32 := Scalar.muli v563 c2_i32_459
  let c0_i32_460 : BitVec 32 := 0#32
  let v565 : BitVec 32 := Scalar.addi v564 c0_i32_460
  let c128_i32_1452 : BitVec 32 := 128#32
  let v1622 : BitVec 32 := Scalar.muli v565 c128_i32_1452
  ![0, v1622.toNat]
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c0_i32_463 : BitVec 32 := 0#32
  let v570 : BitVec 32 := Scalar.addi v3 c0_i32_463
  let c16_i32_464 : BitVec 32 := 16#32
  let v571 : BitVec 32 := Scalar.remsi v570 c16_i32_464
  let c2_i32_465 : BitVec 32 := 2#32
  let v572 : BitVec 32 := Scalar.muli v571 c2_i32_465
  let c1_i32_466 : BitVec 32 := 1#32
  let v573 : BitVec 32 := Scalar.addi v572 c1_i32_466
  let v574 : BitVec 1 := Scalar.cmpi .eq v573 v2
  let true_467 : BitVec 1 := 1#1
  let v575 : BitVec 1 := Scalar.xori v574 true_467
  let v576 : BitVec 32 := Scalar.extui v575
  let c0_i32_468 : BitVec 32 := 0#32
  let v577 : BitVec 1 := Scalar.cmpi .ne v576 c0_i32_468
  v577

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c0_i32_463 : BitVec 32 := 0#32
  let v570 : BitVec 32 := Scalar.addi v3 c0_i32_463
  let c16_i32_464 : BitVec 32 := 16#32
  let v571 : BitVec 32 := Scalar.remsi v570 c16_i32_464
  let c2_i32_465 : BitVec 32 := 2#32
  let v572 : BitVec 32 := Scalar.muli v571 c2_i32_465
  let c1_i32_466 : BitVec 32 := 1#32
  let v573 : BitVec 32 := Scalar.addi v572 c1_i32_466
  ![v573.toNat]
def k0_off10 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c0_i32_463 : BitVec 32 := 0#32
  let v570 : BitVec 32 := Scalar.addi v3 c0_i32_463
  let c16_i32_464 : BitVec 32 := 16#32
  let v571 : BitVec 32 := Scalar.remsi v570 c16_i32_464
  let c2_i32_465 : BitVec 32 := 2#32
  let v572 : BitVec 32 := Scalar.muli v571 c2_i32_465
  let c1_i32_466 : BitVec 32 := 1#32
  let v573 : BitVec 32 := Scalar.addi v572 c1_i32_466
  let c128_i32_1452 : BitVec 32 := 128#32
  let v1622 : BitVec 32 := Scalar.muli v573 c128_i32_1452
  ![0, v1622.toNat]
def k0_off11 (d0 : Dev nD) (c0_i32_491 : BitVec 32) : Fin 2 → Nat :=
  let c0_494 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let v600 : BitVec 32 := Scalar.addi v3 c0_i32_491
  let c16_i32_492 : BitVec 32 := 16#32
  let v601 : BitVec 32 := Scalar.remsi v600 c16_i32_492
  let c256_i32_493 : BitVec 32 := 256#32
  let v602 : BitVec 32 := Scalar.muli v601 c256_i32_493
  let v603 : Index := Scalar.indexCast v602
  ![0, v603.toNat]
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c1_i32_500 : BitVec 32 := 1#32
  let v609 : BitVec 32 := Scalar.addi v3 c1_i32_500
  let c16_i32_501 : BitVec 32 := 16#32
  let v610 : BitVec 32 := Scalar.remsi v609 c16_i32_501
  let c2_i32_502 : BitVec 32 := 2#32
  let v611 : BitVec 32 := Scalar.muli v610 c2_i32_502
  let c0_i32_503 : BitVec 32 := 0#32
  let v612 : BitVec 32 := Scalar.addi v611 c0_i32_503
  let v613 : BitVec 1 := Scalar.cmpi .eq v612 v2
  let true_504 : BitVec 1 := 1#1
  let v614 : BitVec 1 := Scalar.xori v613 true_504
  let v615 : BitVec 32 := Scalar.extui v614
  let c0_i32_505 : BitVec 32 := 0#32
  let v616 : BitVec 1 := Scalar.cmpi .ne v615 c0_i32_505
  v616

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c1_i32_500 : BitVec 32 := 1#32
  let v609 : BitVec 32 := Scalar.addi v3 c1_i32_500
  let c16_i32_501 : BitVec 32 := 16#32
  let v610 : BitVec 32 := Scalar.remsi v609 c16_i32_501
  let c2_i32_502 : BitVec 32 := 2#32
  let v611 : BitVec 32 := Scalar.muli v610 c2_i32_502
  let c0_i32_503 : BitVec 32 := 0#32
  let v612 : BitVec 32 := Scalar.addi v611 c0_i32_503
  ![v612.toNat]
def k0_off13 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c1_i32_500 : BitVec 32 := 1#32
  let v609 : BitVec 32 := Scalar.addi v3 c1_i32_500
  let c16_i32_501 : BitVec 32 := 16#32
  let v610 : BitVec 32 := Scalar.remsi v609 c16_i32_501
  let c2_i32_502 : BitVec 32 := 2#32
  let v611 : BitVec 32 := Scalar.muli v610 c2_i32_502
  let c0_i32_503 : BitVec 32 := 0#32
  let v612 : BitVec 32 := Scalar.addi v611 c0_i32_503
  let c128_i32_1452 : BitVec 32 := 128#32
  let v1622 : BitVec 32 := Scalar.muli v612 c128_i32_1452
  ![0, v1622.toNat]
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c1_i32_506 : BitVec 32 := 1#32
  let v617 : BitVec 32 := Scalar.addi v3 c1_i32_506
  let c16_i32_507 : BitVec 32 := 16#32
  let v618 : BitVec 32 := Scalar.remsi v617 c16_i32_507
  let c2_i32_508 : BitVec 32 := 2#32
  let v619 : BitVec 32 := Scalar.muli v618 c2_i32_508
  let c1_i32_509 : BitVec 32 := 1#32
  let v620 : BitVec 32 := Scalar.addi v619 c1_i32_509
  let v621 : BitVec 1 := Scalar.cmpi .eq v620 v2
  let true_510 : BitVec 1 := 1#1
  let v622 : BitVec 1 := Scalar.xori v621 true_510
  let v623 : BitVec 32 := Scalar.extui v622
  let c0_i32_511 : BitVec 32 := 0#32
  let v624 : BitVec 1 := Scalar.cmpi .ne v623 c0_i32_511
  v624

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c1_i32_506 : BitVec 32 := 1#32
  let v617 : BitVec 32 := Scalar.addi v3 c1_i32_506
  let c16_i32_507 : BitVec 32 := 16#32
  let v618 : BitVec 32 := Scalar.remsi v617 c16_i32_507
  let c2_i32_508 : BitVec 32 := 2#32
  let v619 : BitVec 32 := Scalar.muli v618 c2_i32_508
  let c1_i32_509 : BitVec 32 := 1#32
  let v620 : BitVec 32 := Scalar.addi v619 c1_i32_509
  ![v620.toNat]
def k0_off15 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c1_i32_506 : BitVec 32 := 1#32
  let v617 : BitVec 32 := Scalar.addi v3 c1_i32_506
  let c16_i32_507 : BitVec 32 := 16#32
  let v618 : BitVec 32 := Scalar.remsi v617 c16_i32_507
  let c2_i32_508 : BitVec 32 := 2#32
  let v619 : BitVec 32 := Scalar.muli v618 c2_i32_508
  let c1_i32_509 : BitVec 32 := 1#32
  let v620 : BitVec 32 := Scalar.addi v619 c1_i32_509
  let c128_i32_1452 : BitVec 32 := 128#32
  let v1622 : BitVec 32 := Scalar.muli v620 c128_i32_1452
  ![0, v1622.toNat]
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c2_i32_545 : BitVec 32 := 2#32
  let v659 : BitVec 32 := Scalar.addi v3 c2_i32_545
  let c16_i32_546 : BitVec 32 := 16#32
  let v660 : BitVec 32 := Scalar.remsi v659 c16_i32_546
  let c2_i32_547 : BitVec 32 := 2#32
  let v661 : BitVec 32 := Scalar.muli v660 c2_i32_547
  let c0_i32_548 : BitVec 32 := 0#32
  let v662 : BitVec 32 := Scalar.addi v661 c0_i32_548
  let v663 : BitVec 1 := Scalar.cmpi .eq v662 v2
  let true_549 : BitVec 1 := 1#1
  let v664 : BitVec 1 := Scalar.xori v663 true_549
  let v665 : BitVec 32 := Scalar.extui v664
  let c0_i32_550 : BitVec 32 := 0#32
  let v666 : BitVec 1 := Scalar.cmpi .ne v665 c0_i32_550
  v666

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c2_i32_545 : BitVec 32 := 2#32
  let v659 : BitVec 32 := Scalar.addi v3 c2_i32_545
  let c16_i32_546 : BitVec 32 := 16#32
  let v660 : BitVec 32 := Scalar.remsi v659 c16_i32_546
  let c2_i32_547 : BitVec 32 := 2#32
  let v661 : BitVec 32 := Scalar.muli v660 c2_i32_547
  let c0_i32_548 : BitVec 32 := 0#32
  let v662 : BitVec 32 := Scalar.addi v661 c0_i32_548
  ![v662.toNat]
def k0_off17 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c2_i32_545 : BitVec 32 := 2#32
  let v659 : BitVec 32 := Scalar.addi v3 c2_i32_545
  let c16_i32_546 : BitVec 32 := 16#32
  let v660 : BitVec 32 := Scalar.remsi v659 c16_i32_546
  let c2_i32_547 : BitVec 32 := 2#32
  let v661 : BitVec 32 := Scalar.muli v660 c2_i32_547
  let c0_i32_548 : BitVec 32 := 0#32
  let v662 : BitVec 32 := Scalar.addi v661 c0_i32_548
  let c128_i32_1452 : BitVec 32 := 128#32
  let v1622 : BitVec 32 := Scalar.muli v662 c128_i32_1452
  ![0, v1622.toNat]
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c2_i32_551 : BitVec 32 := 2#32
  let v667 : BitVec 32 := Scalar.addi v3 c2_i32_551
  let c16_i32_552 : BitVec 32 := 16#32
  let v668 : BitVec 32 := Scalar.remsi v667 c16_i32_552
  let c2_i32_553 : BitVec 32 := 2#32
  let v669 : BitVec 32 := Scalar.muli v668 c2_i32_553
  let c1_i32_554 : BitVec 32 := 1#32
  let v670 : BitVec 32 := Scalar.addi v669 c1_i32_554
  let v671 : BitVec 1 := Scalar.cmpi .eq v670 v2
  let true_555 : BitVec 1 := 1#1
  let v672 : BitVec 1 := Scalar.xori v671 true_555
  let v673 : BitVec 32 := Scalar.extui v672
  let c0_i32_556 : BitVec 32 := 0#32
  let v674 : BitVec 1 := Scalar.cmpi .ne v673 c0_i32_556
  v674

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c2_i32_551 : BitVec 32 := 2#32
  let v667 : BitVec 32 := Scalar.addi v3 c2_i32_551
  let c16_i32_552 : BitVec 32 := 16#32
  let v668 : BitVec 32 := Scalar.remsi v667 c16_i32_552
  let c2_i32_553 : BitVec 32 := 2#32
  let v669 : BitVec 32 := Scalar.muli v668 c2_i32_553
  let c1_i32_554 : BitVec 32 := 1#32
  let v670 : BitVec 32 := Scalar.addi v669 c1_i32_554
  ![v670.toNat]
def k0_off19 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c2_i32_551 : BitVec 32 := 2#32
  let v667 : BitVec 32 := Scalar.addi v3 c2_i32_551
  let c16_i32_552 : BitVec 32 := 16#32
  let v668 : BitVec 32 := Scalar.remsi v667 c16_i32_552
  let c2_i32_553 : BitVec 32 := 2#32
  let v669 : BitVec 32 := Scalar.muli v668 c2_i32_553
  let c1_i32_554 : BitVec 32 := 1#32
  let v670 : BitVec 32 := Scalar.addi v669 c1_i32_554
  let c128_i32_1452 : BitVec 32 := 128#32
  let v1622 : BitVec 32 := Scalar.muli v670 c128_i32_1452
  ![0, v1622.toNat]
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c3_i32_591 : BitVec 32 := 3#32
  let v709 : BitVec 32 := Scalar.addi v3 c3_i32_591
  let c16_i32_592 : BitVec 32 := 16#32
  let v710 : BitVec 32 := Scalar.remsi v709 c16_i32_592
  let c2_i32_593 : BitVec 32 := 2#32
  let v711 : BitVec 32 := Scalar.muli v710 c2_i32_593
  let c0_i32_594 : BitVec 32 := 0#32
  let v712 : BitVec 32 := Scalar.addi v711 c0_i32_594
  let v713 : BitVec 1 := Scalar.cmpi .eq v712 v2
  let true_595 : BitVec 1 := 1#1
  let v714 : BitVec 1 := Scalar.xori v713 true_595
  let v715 : BitVec 32 := Scalar.extui v714
  let c0_i32_596 : BitVec 32 := 0#32
  let v716 : BitVec 1 := Scalar.cmpi .ne v715 c0_i32_596
  v716

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c3_i32_591 : BitVec 32 := 3#32
  let v709 : BitVec 32 := Scalar.addi v3 c3_i32_591
  let c16_i32_592 : BitVec 32 := 16#32
  let v710 : BitVec 32 := Scalar.remsi v709 c16_i32_592
  let c2_i32_593 : BitVec 32 := 2#32
  let v711 : BitVec 32 := Scalar.muli v710 c2_i32_593
  let c0_i32_594 : BitVec 32 := 0#32
  let v712 : BitVec 32 := Scalar.addi v711 c0_i32_594
  ![v712.toNat]
def k0_off21 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c3_i32_591 : BitVec 32 := 3#32
  let v709 : BitVec 32 := Scalar.addi v3 c3_i32_591
  let c16_i32_592 : BitVec 32 := 16#32
  let v710 : BitVec 32 := Scalar.remsi v709 c16_i32_592
  let c2_i32_593 : BitVec 32 := 2#32
  let v711 : BitVec 32 := Scalar.muli v710 c2_i32_593
  let c0_i32_594 : BitVec 32 := 0#32
  let v712 : BitVec 32 := Scalar.addi v711 c0_i32_594
  let c128_i32_1452 : BitVec 32 := 128#32
  let v1622 : BitVec 32 := Scalar.muli v712 c128_i32_1452
  ![0, v1622.toNat]
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c3_i32_597 : BitVec 32 := 3#32
  let v717 : BitVec 32 := Scalar.addi v3 c3_i32_597
  let c16_i32_598 : BitVec 32 := 16#32
  let v718 : BitVec 32 := Scalar.remsi v717 c16_i32_598
  let c2_i32_599 : BitVec 32 := 2#32
  let v719 : BitVec 32 := Scalar.muli v718 c2_i32_599
  let c1_i32_600 : BitVec 32 := 1#32
  let v720 : BitVec 32 := Scalar.addi v719 c1_i32_600
  let v721 : BitVec 1 := Scalar.cmpi .eq v720 v2
  let true_601 : BitVec 1 := 1#1
  let v722 : BitVec 1 := Scalar.xori v721 true_601
  let v723 : BitVec 32 := Scalar.extui v722
  let c0_i32_602 : BitVec 32 := 0#32
  let v724 : BitVec 1 := Scalar.cmpi .ne v723 c0_i32_602
  v724

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c3_i32_597 : BitVec 32 := 3#32
  let v717 : BitVec 32 := Scalar.addi v3 c3_i32_597
  let c16_i32_598 : BitVec 32 := 16#32
  let v718 : BitVec 32 := Scalar.remsi v717 c16_i32_598
  let c2_i32_599 : BitVec 32 := 2#32
  let v719 : BitVec 32 := Scalar.muli v718 c2_i32_599
  let c1_i32_600 : BitVec 32 := 1#32
  let v720 : BitVec 32 := Scalar.addi v719 c1_i32_600
  ![v720.toNat]
def k0_off23 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c3_i32_597 : BitVec 32 := 3#32
  let v717 : BitVec 32 := Scalar.addi v3 c3_i32_597
  let c16_i32_598 : BitVec 32 := 16#32
  let v718 : BitVec 32 := Scalar.remsi v717 c16_i32_598
  let c2_i32_599 : BitVec 32 := 2#32
  let v719 : BitVec 32 := Scalar.muli v718 c2_i32_599
  let c1_i32_600 : BitVec 32 := 1#32
  let v720 : BitVec 32 := Scalar.addi v719 c1_i32_600
  let c128_i32_1452 : BitVec 32 := 128#32
  let v1622 : BitVec 32 := Scalar.muli v720 c128_i32_1452
  ![0, v1622.toNat]
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c4_i32_637 : BitVec 32 := 4#32
  let v759 : BitVec 32 := Scalar.addi v3 c4_i32_637
  let c16_i32_638 : BitVec 32 := 16#32
  let v760 : BitVec 32 := Scalar.remsi v759 c16_i32_638
  let c2_i32_639 : BitVec 32 := 2#32
  let v761 : BitVec 32 := Scalar.muli v760 c2_i32_639
  let c0_i32_640 : BitVec 32 := 0#32
  let v762 : BitVec 32 := Scalar.addi v761 c0_i32_640
  let v763 : BitVec 1 := Scalar.cmpi .eq v762 v2
  let true_641 : BitVec 1 := 1#1
  let v764 : BitVec 1 := Scalar.xori v763 true_641
  let v765 : BitVec 32 := Scalar.extui v764
  let c0_i32_642 : BitVec 32 := 0#32
  let v766 : BitVec 1 := Scalar.cmpi .ne v765 c0_i32_642
  v766

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c4_i32_637 : BitVec 32 := 4#32
  let v759 : BitVec 32 := Scalar.addi v3 c4_i32_637
  let c16_i32_638 : BitVec 32 := 16#32
  let v760 : BitVec 32 := Scalar.remsi v759 c16_i32_638
  let c2_i32_639 : BitVec 32 := 2#32
  let v761 : BitVec 32 := Scalar.muli v760 c2_i32_639
  let c0_i32_640 : BitVec 32 := 0#32
  let v762 : BitVec 32 := Scalar.addi v761 c0_i32_640
  ![v762.toNat]
def k0_off25 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c4_i32_637 : BitVec 32 := 4#32
  let v759 : BitVec 32 := Scalar.addi v3 c4_i32_637
  let c16_i32_638 : BitVec 32 := 16#32
  let v760 : BitVec 32 := Scalar.remsi v759 c16_i32_638
  let c2_i32_639 : BitVec 32 := 2#32
  let v761 : BitVec 32 := Scalar.muli v760 c2_i32_639
  let c0_i32_640 : BitVec 32 := 0#32
  let v762 : BitVec 32 := Scalar.addi v761 c0_i32_640
  let c128_i32_1452 : BitVec 32 := 128#32
  let v1622 : BitVec 32 := Scalar.muli v762 c128_i32_1452
  ![0, v1622.toNat]
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c4_i32_643 : BitVec 32 := 4#32
  let v767 : BitVec 32 := Scalar.addi v3 c4_i32_643
  let c16_i32_644 : BitVec 32 := 16#32
  let v768 : BitVec 32 := Scalar.remsi v767 c16_i32_644
  let c2_i32_645 : BitVec 32 := 2#32
  let v769 : BitVec 32 := Scalar.muli v768 c2_i32_645
  let c1_i32_646 : BitVec 32 := 1#32
  let v770 : BitVec 32 := Scalar.addi v769 c1_i32_646
  let v771 : BitVec 1 := Scalar.cmpi .eq v770 v2
  let true_647 : BitVec 1 := 1#1
  let v772 : BitVec 1 := Scalar.xori v771 true_647
  let v773 : BitVec 32 := Scalar.extui v772
  let c0_i32_648 : BitVec 32 := 0#32
  let v774 : BitVec 1 := Scalar.cmpi .ne v773 c0_i32_648
  v774

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c4_i32_643 : BitVec 32 := 4#32
  let v767 : BitVec 32 := Scalar.addi v3 c4_i32_643
  let c16_i32_644 : BitVec 32 := 16#32
  let v768 : BitVec 32 := Scalar.remsi v767 c16_i32_644
  let c2_i32_645 : BitVec 32 := 2#32
  let v769 : BitVec 32 := Scalar.muli v768 c2_i32_645
  let c1_i32_646 : BitVec 32 := 1#32
  let v770 : BitVec 32 := Scalar.addi v769 c1_i32_646
  ![v770.toNat]
def k0_off27 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c4_i32_643 : BitVec 32 := 4#32
  let v767 : BitVec 32 := Scalar.addi v3 c4_i32_643
  let c16_i32_644 : BitVec 32 := 16#32
  let v768 : BitVec 32 := Scalar.remsi v767 c16_i32_644
  let c2_i32_645 : BitVec 32 := 2#32
  let v769 : BitVec 32 := Scalar.muli v768 c2_i32_645
  let c1_i32_646 : BitVec 32 := 1#32
  let v770 : BitVec 32 := Scalar.addi v769 c1_i32_646
  let c128_i32_1452 : BitVec 32 := 128#32
  let v1622 : BitVec 32 := Scalar.muli v770 c128_i32_1452
  ![0, v1622.toNat]
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c5_i32_683 : BitVec 32 := 5#32
  let v809 : BitVec 32 := Scalar.addi v3 c5_i32_683
  let c16_i32_684 : BitVec 32 := 16#32
  let v810 : BitVec 32 := Scalar.remsi v809 c16_i32_684
  let c2_i32_685 : BitVec 32 := 2#32
  let v811 : BitVec 32 := Scalar.muli v810 c2_i32_685
  let c0_i32_686 : BitVec 32 := 0#32
  let v812 : BitVec 32 := Scalar.addi v811 c0_i32_686
  let v813 : BitVec 1 := Scalar.cmpi .eq v812 v2
  let true_687 : BitVec 1 := 1#1
  let v814 : BitVec 1 := Scalar.xori v813 true_687
  let v815 : BitVec 32 := Scalar.extui v814
  let c0_i32_688 : BitVec 32 := 0#32
  let v816 : BitVec 1 := Scalar.cmpi .ne v815 c0_i32_688
  v816

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c5_i32_683 : BitVec 32 := 5#32
  let v809 : BitVec 32 := Scalar.addi v3 c5_i32_683
  let c16_i32_684 : BitVec 32 := 16#32
  let v810 : BitVec 32 := Scalar.remsi v809 c16_i32_684
  let c2_i32_685 : BitVec 32 := 2#32
  let v811 : BitVec 32 := Scalar.muli v810 c2_i32_685
  let c0_i32_686 : BitVec 32 := 0#32
  let v812 : BitVec 32 := Scalar.addi v811 c0_i32_686
  ![v812.toNat]
def k0_off29 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c5_i32_683 : BitVec 32 := 5#32
  let v809 : BitVec 32 := Scalar.addi v3 c5_i32_683
  let c16_i32_684 : BitVec 32 := 16#32
  let v810 : BitVec 32 := Scalar.remsi v809 c16_i32_684
  let c2_i32_685 : BitVec 32 := 2#32
  let v811 : BitVec 32 := Scalar.muli v810 c2_i32_685
  let c0_i32_686 : BitVec 32 := 0#32
  let v812 : BitVec 32 := Scalar.addi v811 c0_i32_686
  let c128_i32_1452 : BitVec 32 := 128#32
  let v1622 : BitVec 32 := Scalar.muli v812 c128_i32_1452
  ![0, v1622.toNat]
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c5_i32_689 : BitVec 32 := 5#32
  let v817 : BitVec 32 := Scalar.addi v3 c5_i32_689
  let c16_i32_690 : BitVec 32 := 16#32
  let v818 : BitVec 32 := Scalar.remsi v817 c16_i32_690
  let c2_i32_691 : BitVec 32 := 2#32
  let v819 : BitVec 32 := Scalar.muli v818 c2_i32_691
  let c1_i32_692 : BitVec 32 := 1#32
  let v820 : BitVec 32 := Scalar.addi v819 c1_i32_692
  let v821 : BitVec 1 := Scalar.cmpi .eq v820 v2
  let true_693 : BitVec 1 := 1#1
  let v822 : BitVec 1 := Scalar.xori v821 true_693
  let v823 : BitVec 32 := Scalar.extui v822
  let c0_i32_694 : BitVec 32 := 0#32
  let v824 : BitVec 1 := Scalar.cmpi .ne v823 c0_i32_694
  v824

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c5_i32_689 : BitVec 32 := 5#32
  let v817 : BitVec 32 := Scalar.addi v3 c5_i32_689
  let c16_i32_690 : BitVec 32 := 16#32
  let v818 : BitVec 32 := Scalar.remsi v817 c16_i32_690
  let c2_i32_691 : BitVec 32 := 2#32
  let v819 : BitVec 32 := Scalar.muli v818 c2_i32_691
  let c1_i32_692 : BitVec 32 := 1#32
  let v820 : BitVec 32 := Scalar.addi v819 c1_i32_692
  ![v820.toNat]
def k0_off31 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c5_i32_689 : BitVec 32 := 5#32
  let v817 : BitVec 32 := Scalar.addi v3 c5_i32_689
  let c16_i32_690 : BitVec 32 := 16#32
  let v818 : BitVec 32 := Scalar.remsi v817 c16_i32_690
  let c2_i32_691 : BitVec 32 := 2#32
  let v819 : BitVec 32 := Scalar.muli v818 c2_i32_691
  let c1_i32_692 : BitVec 32 := 1#32
  let v820 : BitVec 32 := Scalar.addi v819 c1_i32_692
  let c128_i32_1452 : BitVec 32 := 128#32
  let v1622 : BitVec 32 := Scalar.muli v820 c128_i32_1452
  ![0, v1622.toNat]
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c6_i32_729 : BitVec 32 := 6#32
  let v859 : BitVec 32 := Scalar.addi v3 c6_i32_729
  let c16_i32_730 : BitVec 32 := 16#32
  let v860 : BitVec 32 := Scalar.remsi v859 c16_i32_730
  let c2_i32_731 : BitVec 32 := 2#32
  let v861 : BitVec 32 := Scalar.muli v860 c2_i32_731
  let c0_i32_732 : BitVec 32 := 0#32
  let v862 : BitVec 32 := Scalar.addi v861 c0_i32_732
  let v863 : BitVec 1 := Scalar.cmpi .eq v862 v2
  let true_733 : BitVec 1 := 1#1
  let v864 : BitVec 1 := Scalar.xori v863 true_733
  let v865 : BitVec 32 := Scalar.extui v864
  let c0_i32_734 : BitVec 32 := 0#32
  let v866 : BitVec 1 := Scalar.cmpi .ne v865 c0_i32_734
  v866

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c6_i32_729 : BitVec 32 := 6#32
  let v859 : BitVec 32 := Scalar.addi v3 c6_i32_729
  let c16_i32_730 : BitVec 32 := 16#32
  let v860 : BitVec 32 := Scalar.remsi v859 c16_i32_730
  let c2_i32_731 : BitVec 32 := 2#32
  let v861 : BitVec 32 := Scalar.muli v860 c2_i32_731
  let c0_i32_732 : BitVec 32 := 0#32
  let v862 : BitVec 32 := Scalar.addi v861 c0_i32_732
  ![v862.toNat]
def k0_off33 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c6_i32_729 : BitVec 32 := 6#32
  let v859 : BitVec 32 := Scalar.addi v3 c6_i32_729
  let c16_i32_730 : BitVec 32 := 16#32
  let v860 : BitVec 32 := Scalar.remsi v859 c16_i32_730
  let c2_i32_731 : BitVec 32 := 2#32
  let v861 : BitVec 32 := Scalar.muli v860 c2_i32_731
  let c0_i32_732 : BitVec 32 := 0#32
  let v862 : BitVec 32 := Scalar.addi v861 c0_i32_732
  let c128_i32_1452 : BitVec 32 := 128#32
  let v1622 : BitVec 32 := Scalar.muli v862 c128_i32_1452
  ![0, v1622.toNat]
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c6_i32_735 : BitVec 32 := 6#32
  let v867 : BitVec 32 := Scalar.addi v3 c6_i32_735
  let c16_i32_736 : BitVec 32 := 16#32
  let v868 : BitVec 32 := Scalar.remsi v867 c16_i32_736
  let c2_i32_737 : BitVec 32 := 2#32
  let v869 : BitVec 32 := Scalar.muli v868 c2_i32_737
  let c1_i32_738 : BitVec 32 := 1#32
  let v870 : BitVec 32 := Scalar.addi v869 c1_i32_738
  let v871 : BitVec 1 := Scalar.cmpi .eq v870 v2
  let true_739 : BitVec 1 := 1#1
  let v872 : BitVec 1 := Scalar.xori v871 true_739
  let v873 : BitVec 32 := Scalar.extui v872
  let c0_i32_740 : BitVec 32 := 0#32
  let v874 : BitVec 1 := Scalar.cmpi .ne v873 c0_i32_740
  v874

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c6_i32_735 : BitVec 32 := 6#32
  let v867 : BitVec 32 := Scalar.addi v3 c6_i32_735
  let c16_i32_736 : BitVec 32 := 16#32
  let v868 : BitVec 32 := Scalar.remsi v867 c16_i32_736
  let c2_i32_737 : BitVec 32 := 2#32
  let v869 : BitVec 32 := Scalar.muli v868 c2_i32_737
  let c1_i32_738 : BitVec 32 := 1#32
  let v870 : BitVec 32 := Scalar.addi v869 c1_i32_738
  ![v870.toNat]
def k0_off35 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c6_i32_735 : BitVec 32 := 6#32
  let v867 : BitVec 32 := Scalar.addi v3 c6_i32_735
  let c16_i32_736 : BitVec 32 := 16#32
  let v868 : BitVec 32 := Scalar.remsi v867 c16_i32_736
  let c2_i32_737 : BitVec 32 := 2#32
  let v869 : BitVec 32 := Scalar.muli v868 c2_i32_737
  let c1_i32_738 : BitVec 32 := 1#32
  let v870 : BitVec 32 := Scalar.addi v869 c1_i32_738
  let c128_i32_1452 : BitVec 32 := 128#32
  let v1622 : BitVec 32 := Scalar.muli v870 c128_i32_1452
  ![0, v1622.toNat]
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c7_i32_775 : BitVec 32 := 7#32
  let v909 : BitVec 32 := Scalar.addi v3 c7_i32_775
  let c16_i32_776 : BitVec 32 := 16#32
  let v910 : BitVec 32 := Scalar.remsi v909 c16_i32_776
  let c2_i32_777 : BitVec 32 := 2#32
  let v911 : BitVec 32 := Scalar.muli v910 c2_i32_777
  let c0_i32_778 : BitVec 32 := 0#32
  let v912 : BitVec 32 := Scalar.addi v911 c0_i32_778
  let v913 : BitVec 1 := Scalar.cmpi .eq v912 v2
  let true_779 : BitVec 1 := 1#1
  let v914 : BitVec 1 := Scalar.xori v913 true_779
  let v915 : BitVec 32 := Scalar.extui v914
  let c0_i32_780 : BitVec 32 := 0#32
  let v916 : BitVec 1 := Scalar.cmpi .ne v915 c0_i32_780
  v916

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c7_i32_775 : BitVec 32 := 7#32
  let v909 : BitVec 32 := Scalar.addi v3 c7_i32_775
  let c16_i32_776 : BitVec 32 := 16#32
  let v910 : BitVec 32 := Scalar.remsi v909 c16_i32_776
  let c2_i32_777 : BitVec 32 := 2#32
  let v911 : BitVec 32 := Scalar.muli v910 c2_i32_777
  let c0_i32_778 : BitVec 32 := 0#32
  let v912 : BitVec 32 := Scalar.addi v911 c0_i32_778
  ![v912.toNat]
def k0_off37 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c7_i32_775 : BitVec 32 := 7#32
  let v909 : BitVec 32 := Scalar.addi v3 c7_i32_775
  let c16_i32_776 : BitVec 32 := 16#32
  let v910 : BitVec 32 := Scalar.remsi v909 c16_i32_776
  let c2_i32_777 : BitVec 32 := 2#32
  let v911 : BitVec 32 := Scalar.muli v910 c2_i32_777
  let c0_i32_778 : BitVec 32 := 0#32
  let v912 : BitVec 32 := Scalar.addi v911 c0_i32_778
  let c128_i32_1452 : BitVec 32 := 128#32
  let v1622 : BitVec 32 := Scalar.muli v912 c128_i32_1452
  ![0, v1622.toNat]
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c7_i32_781 : BitVec 32 := 7#32
  let v917 : BitVec 32 := Scalar.addi v3 c7_i32_781
  let c16_i32_782 : BitVec 32 := 16#32
  let v918 : BitVec 32 := Scalar.remsi v917 c16_i32_782
  let c2_i32_783 : BitVec 32 := 2#32
  let v919 : BitVec 32 := Scalar.muli v918 c2_i32_783
  let c1_i32_784 : BitVec 32 := 1#32
  let v920 : BitVec 32 := Scalar.addi v919 c1_i32_784
  let v921 : BitVec 1 := Scalar.cmpi .eq v920 v2
  let true_785 : BitVec 1 := 1#1
  let v922 : BitVec 1 := Scalar.xori v921 true_785
  let v923 : BitVec 32 := Scalar.extui v922
  let c0_i32_786 : BitVec 32 := 0#32
  let v924 : BitVec 1 := Scalar.cmpi .ne v923 c0_i32_786
  v924

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c7_i32_781 : BitVec 32 := 7#32
  let v917 : BitVec 32 := Scalar.addi v3 c7_i32_781
  let c16_i32_782 : BitVec 32 := 16#32
  let v918 : BitVec 32 := Scalar.remsi v917 c16_i32_782
  let c2_i32_783 : BitVec 32 := 2#32
  let v919 : BitVec 32 := Scalar.muli v918 c2_i32_783
  let c1_i32_784 : BitVec 32 := 1#32
  let v920 : BitVec 32 := Scalar.addi v919 c1_i32_784
  ![v920.toNat]
def k0_off39 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c7_i32_781 : BitVec 32 := 7#32
  let v917 : BitVec 32 := Scalar.addi v3 c7_i32_781
  let c16_i32_782 : BitVec 32 := 16#32
  let v918 : BitVec 32 := Scalar.remsi v917 c16_i32_782
  let c2_i32_783 : BitVec 32 := 2#32
  let v919 : BitVec 32 := Scalar.muli v918 c2_i32_783
  let c1_i32_784 : BitVec 32 := 1#32
  let v920 : BitVec 32 := Scalar.addi v919 c1_i32_784
  let c128_i32_1452 : BitVec 32 := 128#32
  let v1622 : BitVec 32 := Scalar.muli v920 c128_i32_1452
  ![0, v1622.toNat]
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c8_i32_821 : BitVec 32 := 8#32
  let v959 : BitVec 32 := Scalar.addi v3 c8_i32_821
  let c16_i32_822 : BitVec 32 := 16#32
  let v960 : BitVec 32 := Scalar.remsi v959 c16_i32_822
  let c2_i32_823 : BitVec 32 := 2#32
  let v961 : BitVec 32 := Scalar.muli v960 c2_i32_823
  let c0_i32_824 : BitVec 32 := 0#32
  let v962 : BitVec 32 := Scalar.addi v961 c0_i32_824
  let v963 : BitVec 1 := Scalar.cmpi .eq v962 v2
  let true_825 : BitVec 1 := 1#1
  let v964 : BitVec 1 := Scalar.xori v963 true_825
  let v965 : BitVec 32 := Scalar.extui v964
  let c0_i32_826 : BitVec 32 := 0#32
  let v966 : BitVec 1 := Scalar.cmpi .ne v965 c0_i32_826
  v966

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c8_i32_821 : BitVec 32 := 8#32
  let v959 : BitVec 32 := Scalar.addi v3 c8_i32_821
  let c16_i32_822 : BitVec 32 := 16#32
  let v960 : BitVec 32 := Scalar.remsi v959 c16_i32_822
  let c2_i32_823 : BitVec 32 := 2#32
  let v961 : BitVec 32 := Scalar.muli v960 c2_i32_823
  let c0_i32_824 : BitVec 32 := 0#32
  let v962 : BitVec 32 := Scalar.addi v961 c0_i32_824
  ![v962.toNat]
def k0_off41 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c8_i32_821 : BitVec 32 := 8#32
  let v959 : BitVec 32 := Scalar.addi v3 c8_i32_821
  let c16_i32_822 : BitVec 32 := 16#32
  let v960 : BitVec 32 := Scalar.remsi v959 c16_i32_822
  let c2_i32_823 : BitVec 32 := 2#32
  let v961 : BitVec 32 := Scalar.muli v960 c2_i32_823
  let c0_i32_824 : BitVec 32 := 0#32
  let v962 : BitVec 32 := Scalar.addi v961 c0_i32_824
  let c128_i32_1452 : BitVec 32 := 128#32
  let v1622 : BitVec 32 := Scalar.muli v962 c128_i32_1452
  ![0, v1622.toNat]
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c8_i32_827 : BitVec 32 := 8#32
  let v967 : BitVec 32 := Scalar.addi v3 c8_i32_827
  let c16_i32_828 : BitVec 32 := 16#32
  let v968 : BitVec 32 := Scalar.remsi v967 c16_i32_828
  let c2_i32_829 : BitVec 32 := 2#32
  let v969 : BitVec 32 := Scalar.muli v968 c2_i32_829
  let c1_i32_830 : BitVec 32 := 1#32
  let v970 : BitVec 32 := Scalar.addi v969 c1_i32_830
  let v971 : BitVec 1 := Scalar.cmpi .eq v970 v2
  let true_831 : BitVec 1 := 1#1
  let v972 : BitVec 1 := Scalar.xori v971 true_831
  let v973 : BitVec 32 := Scalar.extui v972
  let c0_i32_832 : BitVec 32 := 0#32
  let v974 : BitVec 1 := Scalar.cmpi .ne v973 c0_i32_832
  v974

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c8_i32_827 : BitVec 32 := 8#32
  let v967 : BitVec 32 := Scalar.addi v3 c8_i32_827
  let c16_i32_828 : BitVec 32 := 16#32
  let v968 : BitVec 32 := Scalar.remsi v967 c16_i32_828
  let c2_i32_829 : BitVec 32 := 2#32
  let v969 : BitVec 32 := Scalar.muli v968 c2_i32_829
  let c1_i32_830 : BitVec 32 := 1#32
  let v970 : BitVec 32 := Scalar.addi v969 c1_i32_830
  ![v970.toNat]
def k0_off43 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c8_i32_827 : BitVec 32 := 8#32
  let v967 : BitVec 32 := Scalar.addi v3 c8_i32_827
  let c16_i32_828 : BitVec 32 := 16#32
  let v968 : BitVec 32 := Scalar.remsi v967 c16_i32_828
  let c2_i32_829 : BitVec 32 := 2#32
  let v969 : BitVec 32 := Scalar.muli v968 c2_i32_829
  let c1_i32_830 : BitVec 32 := 1#32
  let v970 : BitVec 32 := Scalar.addi v969 c1_i32_830
  let c128_i32_1452 : BitVec 32 := 128#32
  let v1622 : BitVec 32 := Scalar.muli v970 c128_i32_1452
  ![0, v1622.toNat]
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c9_i32_867 : BitVec 32 := 9#32
  let v1009 : BitVec 32 := Scalar.addi v3 c9_i32_867
  let c16_i32_868 : BitVec 32 := 16#32
  let v1010 : BitVec 32 := Scalar.remsi v1009 c16_i32_868
  let c2_i32_869 : BitVec 32 := 2#32
  let v1011 : BitVec 32 := Scalar.muli v1010 c2_i32_869
  let c0_i32_870 : BitVec 32 := 0#32
  let v1012 : BitVec 32 := Scalar.addi v1011 c0_i32_870
  let v1013 : BitVec 1 := Scalar.cmpi .eq v1012 v2
  let true_871 : BitVec 1 := 1#1
  let v1014 : BitVec 1 := Scalar.xori v1013 true_871
  let v1015 : BitVec 32 := Scalar.extui v1014
  let c0_i32_872 : BitVec 32 := 0#32
  let v1016 : BitVec 1 := Scalar.cmpi .ne v1015 c0_i32_872
  v1016

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c9_i32_867 : BitVec 32 := 9#32
  let v1009 : BitVec 32 := Scalar.addi v3 c9_i32_867
  let c16_i32_868 : BitVec 32 := 16#32
  let v1010 : BitVec 32 := Scalar.remsi v1009 c16_i32_868
  let c2_i32_869 : BitVec 32 := 2#32
  let v1011 : BitVec 32 := Scalar.muli v1010 c2_i32_869
  let c0_i32_870 : BitVec 32 := 0#32
  let v1012 : BitVec 32 := Scalar.addi v1011 c0_i32_870
  ![v1012.toNat]
def k0_off45 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c9_i32_867 : BitVec 32 := 9#32
  let v1009 : BitVec 32 := Scalar.addi v3 c9_i32_867
  let c16_i32_868 : BitVec 32 := 16#32
  let v1010 : BitVec 32 := Scalar.remsi v1009 c16_i32_868
  let c2_i32_869 : BitVec 32 := 2#32
  let v1011 : BitVec 32 := Scalar.muli v1010 c2_i32_869
  let c0_i32_870 : BitVec 32 := 0#32
  let v1012 : BitVec 32 := Scalar.addi v1011 c0_i32_870
  let c128_i32_1452 : BitVec 32 := 128#32
  let v1622 : BitVec 32 := Scalar.muli v1012 c128_i32_1452
  ![0, v1622.toNat]
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c9_i32_873 : BitVec 32 := 9#32
  let v1017 : BitVec 32 := Scalar.addi v3 c9_i32_873
  let c16_i32_874 : BitVec 32 := 16#32
  let v1018 : BitVec 32 := Scalar.remsi v1017 c16_i32_874
  let c2_i32_875 : BitVec 32 := 2#32
  let v1019 : BitVec 32 := Scalar.muli v1018 c2_i32_875
  let c1_i32_876 : BitVec 32 := 1#32
  let v1020 : BitVec 32 := Scalar.addi v1019 c1_i32_876
  let v1021 : BitVec 1 := Scalar.cmpi .eq v1020 v2
  let true_877 : BitVec 1 := 1#1
  let v1022 : BitVec 1 := Scalar.xori v1021 true_877
  let v1023 : BitVec 32 := Scalar.extui v1022
  let c0_i32_878 : BitVec 32 := 0#32
  let v1024 : BitVec 1 := Scalar.cmpi .ne v1023 c0_i32_878
  v1024

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c9_i32_873 : BitVec 32 := 9#32
  let v1017 : BitVec 32 := Scalar.addi v3 c9_i32_873
  let c16_i32_874 : BitVec 32 := 16#32
  let v1018 : BitVec 32 := Scalar.remsi v1017 c16_i32_874
  let c2_i32_875 : BitVec 32 := 2#32
  let v1019 : BitVec 32 := Scalar.muli v1018 c2_i32_875
  let c1_i32_876 : BitVec 32 := 1#32
  let v1020 : BitVec 32 := Scalar.addi v1019 c1_i32_876
  ![v1020.toNat]
def k0_off47 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c9_i32_873 : BitVec 32 := 9#32
  let v1017 : BitVec 32 := Scalar.addi v3 c9_i32_873
  let c16_i32_874 : BitVec 32 := 16#32
  let v1018 : BitVec 32 := Scalar.remsi v1017 c16_i32_874
  let c2_i32_875 : BitVec 32 := 2#32
  let v1019 : BitVec 32 := Scalar.muli v1018 c2_i32_875
  let c1_i32_876 : BitVec 32 := 1#32
  let v1020 : BitVec 32 := Scalar.addi v1019 c1_i32_876
  let c128_i32_1452 : BitVec 32 := 128#32
  let v1622 : BitVec 32 := Scalar.muli v1020 c128_i32_1452
  ![0, v1622.toNat]
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c10_i32_913 : BitVec 32 := 10#32
  let v1059 : BitVec 32 := Scalar.addi v3 c10_i32_913
  let c16_i32_914 : BitVec 32 := 16#32
  let v1060 : BitVec 32 := Scalar.remsi v1059 c16_i32_914
  let c2_i32_915 : BitVec 32 := 2#32
  let v1061 : BitVec 32 := Scalar.muli v1060 c2_i32_915
  let c0_i32_916 : BitVec 32 := 0#32
  let v1062 : BitVec 32 := Scalar.addi v1061 c0_i32_916
  let v1063 : BitVec 1 := Scalar.cmpi .eq v1062 v2
  let true_917 : BitVec 1 := 1#1
  let v1064 : BitVec 1 := Scalar.xori v1063 true_917
  let v1065 : BitVec 32 := Scalar.extui v1064
  let c0_i32_918 : BitVec 32 := 0#32
  let v1066 : BitVec 1 := Scalar.cmpi .ne v1065 c0_i32_918
  v1066

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c10_i32_913 : BitVec 32 := 10#32
  let v1059 : BitVec 32 := Scalar.addi v3 c10_i32_913
  let c16_i32_914 : BitVec 32 := 16#32
  let v1060 : BitVec 32 := Scalar.remsi v1059 c16_i32_914
  let c2_i32_915 : BitVec 32 := 2#32
  let v1061 : BitVec 32 := Scalar.muli v1060 c2_i32_915
  let c0_i32_916 : BitVec 32 := 0#32
  let v1062 : BitVec 32 := Scalar.addi v1061 c0_i32_916
  ![v1062.toNat]
def k0_off49 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c10_i32_913 : BitVec 32 := 10#32
  let v1059 : BitVec 32 := Scalar.addi v3 c10_i32_913
  let c16_i32_914 : BitVec 32 := 16#32
  let v1060 : BitVec 32 := Scalar.remsi v1059 c16_i32_914
  let c2_i32_915 : BitVec 32 := 2#32
  let v1061 : BitVec 32 := Scalar.muli v1060 c2_i32_915
  let c0_i32_916 : BitVec 32 := 0#32
  let v1062 : BitVec 32 := Scalar.addi v1061 c0_i32_916
  let c128_i32_1452 : BitVec 32 := 128#32
  let v1622 : BitVec 32 := Scalar.muli v1062 c128_i32_1452
  ![0, v1622.toNat]
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c10_i32_919 : BitVec 32 := 10#32
  let v1067 : BitVec 32 := Scalar.addi v3 c10_i32_919
  let c16_i32_920 : BitVec 32 := 16#32
  let v1068 : BitVec 32 := Scalar.remsi v1067 c16_i32_920
  let c2_i32_921 : BitVec 32 := 2#32
  let v1069 : BitVec 32 := Scalar.muli v1068 c2_i32_921
  let c1_i32_922 : BitVec 32 := 1#32
  let v1070 : BitVec 32 := Scalar.addi v1069 c1_i32_922
  let v1071 : BitVec 1 := Scalar.cmpi .eq v1070 v2
  let true_923 : BitVec 1 := 1#1
  let v1072 : BitVec 1 := Scalar.xori v1071 true_923
  let v1073 : BitVec 32 := Scalar.extui v1072
  let c0_i32_924 : BitVec 32 := 0#32
  let v1074 : BitVec 1 := Scalar.cmpi .ne v1073 c0_i32_924
  v1074

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c10_i32_919 : BitVec 32 := 10#32
  let v1067 : BitVec 32 := Scalar.addi v3 c10_i32_919
  let c16_i32_920 : BitVec 32 := 16#32
  let v1068 : BitVec 32 := Scalar.remsi v1067 c16_i32_920
  let c2_i32_921 : BitVec 32 := 2#32
  let v1069 : BitVec 32 := Scalar.muli v1068 c2_i32_921
  let c1_i32_922 : BitVec 32 := 1#32
  let v1070 : BitVec 32 := Scalar.addi v1069 c1_i32_922
  ![v1070.toNat]
def k0_off51 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c10_i32_919 : BitVec 32 := 10#32
  let v1067 : BitVec 32 := Scalar.addi v3 c10_i32_919
  let c16_i32_920 : BitVec 32 := 16#32
  let v1068 : BitVec 32 := Scalar.remsi v1067 c16_i32_920
  let c2_i32_921 : BitVec 32 := 2#32
  let v1069 : BitVec 32 := Scalar.muli v1068 c2_i32_921
  let c1_i32_922 : BitVec 32 := 1#32
  let v1070 : BitVec 32 := Scalar.addi v1069 c1_i32_922
  let c128_i32_1452 : BitVec 32 := 128#32
  let v1622 : BitVec 32 := Scalar.muli v1070 c128_i32_1452
  ![0, v1622.toNat]
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c11_i32_959 : BitVec 32 := 11#32
  let v1109 : BitVec 32 := Scalar.addi v3 c11_i32_959
  let c16_i32_960 : BitVec 32 := 16#32
  let v1110 : BitVec 32 := Scalar.remsi v1109 c16_i32_960
  let c2_i32_961 : BitVec 32 := 2#32
  let v1111 : BitVec 32 := Scalar.muli v1110 c2_i32_961
  let c0_i32_962 : BitVec 32 := 0#32
  let v1112 : BitVec 32 := Scalar.addi v1111 c0_i32_962
  let v1113 : BitVec 1 := Scalar.cmpi .eq v1112 v2
  let true_963 : BitVec 1 := 1#1
  let v1114 : BitVec 1 := Scalar.xori v1113 true_963
  let v1115 : BitVec 32 := Scalar.extui v1114
  let c0_i32_964 : BitVec 32 := 0#32
  let v1116 : BitVec 1 := Scalar.cmpi .ne v1115 c0_i32_964
  v1116

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c11_i32_959 : BitVec 32 := 11#32
  let v1109 : BitVec 32 := Scalar.addi v3 c11_i32_959
  let c16_i32_960 : BitVec 32 := 16#32
  let v1110 : BitVec 32 := Scalar.remsi v1109 c16_i32_960
  let c2_i32_961 : BitVec 32 := 2#32
  let v1111 : BitVec 32 := Scalar.muli v1110 c2_i32_961
  let c0_i32_962 : BitVec 32 := 0#32
  let v1112 : BitVec 32 := Scalar.addi v1111 c0_i32_962
  ![v1112.toNat]
def k0_off53 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c11_i32_959 : BitVec 32 := 11#32
  let v1109 : BitVec 32 := Scalar.addi v3 c11_i32_959
  let c16_i32_960 : BitVec 32 := 16#32
  let v1110 : BitVec 32 := Scalar.remsi v1109 c16_i32_960
  let c2_i32_961 : BitVec 32 := 2#32
  let v1111 : BitVec 32 := Scalar.muli v1110 c2_i32_961
  let c0_i32_962 : BitVec 32 := 0#32
  let v1112 : BitVec 32 := Scalar.addi v1111 c0_i32_962
  let c128_i32_1452 : BitVec 32 := 128#32
  let v1622 : BitVec 32 := Scalar.muli v1112 c128_i32_1452
  ![0, v1622.toNat]
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c11_i32_965 : BitVec 32 := 11#32
  let v1117 : BitVec 32 := Scalar.addi v3 c11_i32_965
  let c16_i32_966 : BitVec 32 := 16#32
  let v1118 : BitVec 32 := Scalar.remsi v1117 c16_i32_966
  let c2_i32_967 : BitVec 32 := 2#32
  let v1119 : BitVec 32 := Scalar.muli v1118 c2_i32_967
  let c1_i32_968 : BitVec 32 := 1#32
  let v1120 : BitVec 32 := Scalar.addi v1119 c1_i32_968
  let v1121 : BitVec 1 := Scalar.cmpi .eq v1120 v2
  let true_969 : BitVec 1 := 1#1
  let v1122 : BitVec 1 := Scalar.xori v1121 true_969
  let v1123 : BitVec 32 := Scalar.extui v1122
  let c0_i32_970 : BitVec 32 := 0#32
  let v1124 : BitVec 1 := Scalar.cmpi .ne v1123 c0_i32_970
  v1124

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c11_i32_965 : BitVec 32 := 11#32
  let v1117 : BitVec 32 := Scalar.addi v3 c11_i32_965
  let c16_i32_966 : BitVec 32 := 16#32
  let v1118 : BitVec 32 := Scalar.remsi v1117 c16_i32_966
  let c2_i32_967 : BitVec 32 := 2#32
  let v1119 : BitVec 32 := Scalar.muli v1118 c2_i32_967
  let c1_i32_968 : BitVec 32 := 1#32
  let v1120 : BitVec 32 := Scalar.addi v1119 c1_i32_968
  ![v1120.toNat]
def k0_off55 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c11_i32_965 : BitVec 32 := 11#32
  let v1117 : BitVec 32 := Scalar.addi v3 c11_i32_965
  let c16_i32_966 : BitVec 32 := 16#32
  let v1118 : BitVec 32 := Scalar.remsi v1117 c16_i32_966
  let c2_i32_967 : BitVec 32 := 2#32
  let v1119 : BitVec 32 := Scalar.muli v1118 c2_i32_967
  let c1_i32_968 : BitVec 32 := 1#32
  let v1120 : BitVec 32 := Scalar.addi v1119 c1_i32_968
  let c128_i32_1452 : BitVec 32 := 128#32
  let v1622 : BitVec 32 := Scalar.muli v1120 c128_i32_1452
  ![0, v1622.toNat]
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c12_i32_1005 : BitVec 32 := 12#32
  let v1159 : BitVec 32 := Scalar.addi v3 c12_i32_1005
  let c16_i32_1006 : BitVec 32 := 16#32
  let v1160 : BitVec 32 := Scalar.remsi v1159 c16_i32_1006
  let c2_i32_1007 : BitVec 32 := 2#32
  let v1161 : BitVec 32 := Scalar.muli v1160 c2_i32_1007
  let c0_i32_1008 : BitVec 32 := 0#32
  let v1162 : BitVec 32 := Scalar.addi v1161 c0_i32_1008
  let v1163 : BitVec 1 := Scalar.cmpi .eq v1162 v2
  let true_1009 : BitVec 1 := 1#1
  let v1164 : BitVec 1 := Scalar.xori v1163 true_1009
  let v1165 : BitVec 32 := Scalar.extui v1164
  let c0_i32_1010 : BitVec 32 := 0#32
  let v1166 : BitVec 1 := Scalar.cmpi .ne v1165 c0_i32_1010
  v1166

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c12_i32_1005 : BitVec 32 := 12#32
  let v1159 : BitVec 32 := Scalar.addi v3 c12_i32_1005
  let c16_i32_1006 : BitVec 32 := 16#32
  let v1160 : BitVec 32 := Scalar.remsi v1159 c16_i32_1006
  let c2_i32_1007 : BitVec 32 := 2#32
  let v1161 : BitVec 32 := Scalar.muli v1160 c2_i32_1007
  let c0_i32_1008 : BitVec 32 := 0#32
  let v1162 : BitVec 32 := Scalar.addi v1161 c0_i32_1008
  ![v1162.toNat]
def k0_off57 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c12_i32_1005 : BitVec 32 := 12#32
  let v1159 : BitVec 32 := Scalar.addi v3 c12_i32_1005
  let c16_i32_1006 : BitVec 32 := 16#32
  let v1160 : BitVec 32 := Scalar.remsi v1159 c16_i32_1006
  let c2_i32_1007 : BitVec 32 := 2#32
  let v1161 : BitVec 32 := Scalar.muli v1160 c2_i32_1007
  let c0_i32_1008 : BitVec 32 := 0#32
  let v1162 : BitVec 32 := Scalar.addi v1161 c0_i32_1008
  let c128_i32_1452 : BitVec 32 := 128#32
  let v1622 : BitVec 32 := Scalar.muli v1162 c128_i32_1452
  ![0, v1622.toNat]
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c12_i32_1011 : BitVec 32 := 12#32
  let v1167 : BitVec 32 := Scalar.addi v3 c12_i32_1011
  let c16_i32_1012 : BitVec 32 := 16#32
  let v1168 : BitVec 32 := Scalar.remsi v1167 c16_i32_1012
  let c2_i32_1013 : BitVec 32 := 2#32
  let v1169 : BitVec 32 := Scalar.muli v1168 c2_i32_1013
  let c1_i32_1014 : BitVec 32 := 1#32
  let v1170 : BitVec 32 := Scalar.addi v1169 c1_i32_1014
  let v1171 : BitVec 1 := Scalar.cmpi .eq v1170 v2
  let true_1015 : BitVec 1 := 1#1
  let v1172 : BitVec 1 := Scalar.xori v1171 true_1015
  let v1173 : BitVec 32 := Scalar.extui v1172
  let c0_i32_1016 : BitVec 32 := 0#32
  let v1174 : BitVec 1 := Scalar.cmpi .ne v1173 c0_i32_1016
  v1174

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c12_i32_1011 : BitVec 32 := 12#32
  let v1167 : BitVec 32 := Scalar.addi v3 c12_i32_1011
  let c16_i32_1012 : BitVec 32 := 16#32
  let v1168 : BitVec 32 := Scalar.remsi v1167 c16_i32_1012
  let c2_i32_1013 : BitVec 32 := 2#32
  let v1169 : BitVec 32 := Scalar.muli v1168 c2_i32_1013
  let c1_i32_1014 : BitVec 32 := 1#32
  let v1170 : BitVec 32 := Scalar.addi v1169 c1_i32_1014
  ![v1170.toNat]
def k0_off59 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c12_i32_1011 : BitVec 32 := 12#32
  let v1167 : BitVec 32 := Scalar.addi v3 c12_i32_1011
  let c16_i32_1012 : BitVec 32 := 16#32
  let v1168 : BitVec 32 := Scalar.remsi v1167 c16_i32_1012
  let c2_i32_1013 : BitVec 32 := 2#32
  let v1169 : BitVec 32 := Scalar.muli v1168 c2_i32_1013
  let c1_i32_1014 : BitVec 32 := 1#32
  let v1170 : BitVec 32 := Scalar.addi v1169 c1_i32_1014
  let c128_i32_1452 : BitVec 32 := 128#32
  let v1622 : BitVec 32 := Scalar.muli v1170 c128_i32_1452
  ![0, v1622.toNat]
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c13_i32_1051 : BitVec 32 := 13#32
  let v1209 : BitVec 32 := Scalar.addi v3 c13_i32_1051
  let c16_i32_1052 : BitVec 32 := 16#32
  let v1210 : BitVec 32 := Scalar.remsi v1209 c16_i32_1052
  let c2_i32_1053 : BitVec 32 := 2#32
  let v1211 : BitVec 32 := Scalar.muli v1210 c2_i32_1053
  let c0_i32_1054 : BitVec 32 := 0#32
  let v1212 : BitVec 32 := Scalar.addi v1211 c0_i32_1054
  let v1213 : BitVec 1 := Scalar.cmpi .eq v1212 v2
  let true_1055 : BitVec 1 := 1#1
  let v1214 : BitVec 1 := Scalar.xori v1213 true_1055
  let v1215 : BitVec 32 := Scalar.extui v1214
  let c0_i32_1056 : BitVec 32 := 0#32
  let v1216 : BitVec 1 := Scalar.cmpi .ne v1215 c0_i32_1056
  v1216

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c13_i32_1051 : BitVec 32 := 13#32
  let v1209 : BitVec 32 := Scalar.addi v3 c13_i32_1051
  let c16_i32_1052 : BitVec 32 := 16#32
  let v1210 : BitVec 32 := Scalar.remsi v1209 c16_i32_1052
  let c2_i32_1053 : BitVec 32 := 2#32
  let v1211 : BitVec 32 := Scalar.muli v1210 c2_i32_1053
  let c0_i32_1054 : BitVec 32 := 0#32
  let v1212 : BitVec 32 := Scalar.addi v1211 c0_i32_1054
  ![v1212.toNat]
def k0_off61 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c13_i32_1051 : BitVec 32 := 13#32
  let v1209 : BitVec 32 := Scalar.addi v3 c13_i32_1051
  let c16_i32_1052 : BitVec 32 := 16#32
  let v1210 : BitVec 32 := Scalar.remsi v1209 c16_i32_1052
  let c2_i32_1053 : BitVec 32 := 2#32
  let v1211 : BitVec 32 := Scalar.muli v1210 c2_i32_1053
  let c0_i32_1054 : BitVec 32 := 0#32
  let v1212 : BitVec 32 := Scalar.addi v1211 c0_i32_1054
  let c128_i32_1452 : BitVec 32 := 128#32
  let v1622 : BitVec 32 := Scalar.muli v1212 c128_i32_1452
  ![0, v1622.toNat]
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c13_i32_1057 : BitVec 32 := 13#32
  let v1217 : BitVec 32 := Scalar.addi v3 c13_i32_1057
  let c16_i32_1058 : BitVec 32 := 16#32
  let v1218 : BitVec 32 := Scalar.remsi v1217 c16_i32_1058
  let c2_i32_1059 : BitVec 32 := 2#32
  let v1219 : BitVec 32 := Scalar.muli v1218 c2_i32_1059
  let c1_i32_1060 : BitVec 32 := 1#32
  let v1220 : BitVec 32 := Scalar.addi v1219 c1_i32_1060
  let v1221 : BitVec 1 := Scalar.cmpi .eq v1220 v2
  let true_1061 : BitVec 1 := 1#1
  let v1222 : BitVec 1 := Scalar.xori v1221 true_1061
  let v1223 : BitVec 32 := Scalar.extui v1222
  let c0_i32_1062 : BitVec 32 := 0#32
  let v1224 : BitVec 1 := Scalar.cmpi .ne v1223 c0_i32_1062
  v1224

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c13_i32_1057 : BitVec 32 := 13#32
  let v1217 : BitVec 32 := Scalar.addi v3 c13_i32_1057
  let c16_i32_1058 : BitVec 32 := 16#32
  let v1218 : BitVec 32 := Scalar.remsi v1217 c16_i32_1058
  let c2_i32_1059 : BitVec 32 := 2#32
  let v1219 : BitVec 32 := Scalar.muli v1218 c2_i32_1059
  let c1_i32_1060 : BitVec 32 := 1#32
  let v1220 : BitVec 32 := Scalar.addi v1219 c1_i32_1060
  ![v1220.toNat]
def k0_off63 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c13_i32_1057 : BitVec 32 := 13#32
  let v1217 : BitVec 32 := Scalar.addi v3 c13_i32_1057
  let c16_i32_1058 : BitVec 32 := 16#32
  let v1218 : BitVec 32 := Scalar.remsi v1217 c16_i32_1058
  let c2_i32_1059 : BitVec 32 := 2#32
  let v1219 : BitVec 32 := Scalar.muli v1218 c2_i32_1059
  let c1_i32_1060 : BitVec 32 := 1#32
  let v1220 : BitVec 32 := Scalar.addi v1219 c1_i32_1060
  let c128_i32_1452 : BitVec 32 := 128#32
  let v1622 : BitVec 32 := Scalar.muli v1220 c128_i32_1452
  ![0, v1622.toNat]
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c14_i32_1097 : BitVec 32 := 14#32
  let v1259 : BitVec 32 := Scalar.addi v3 c14_i32_1097
  let c16_i32_1098 : BitVec 32 := 16#32
  let v1260 : BitVec 32 := Scalar.remsi v1259 c16_i32_1098
  let c2_i32_1099 : BitVec 32 := 2#32
  let v1261 : BitVec 32 := Scalar.muli v1260 c2_i32_1099
  let c0_i32_1100 : BitVec 32 := 0#32
  let v1262 : BitVec 32 := Scalar.addi v1261 c0_i32_1100
  let v1263 : BitVec 1 := Scalar.cmpi .eq v1262 v2
  let true_1101 : BitVec 1 := 1#1
  let v1264 : BitVec 1 := Scalar.xori v1263 true_1101
  let v1265 : BitVec 32 := Scalar.extui v1264
  let c0_i32_1102 : BitVec 32 := 0#32
  let v1266 : BitVec 1 := Scalar.cmpi .ne v1265 c0_i32_1102
  v1266

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c14_i32_1097 : BitVec 32 := 14#32
  let v1259 : BitVec 32 := Scalar.addi v3 c14_i32_1097
  let c16_i32_1098 : BitVec 32 := 16#32
  let v1260 : BitVec 32 := Scalar.remsi v1259 c16_i32_1098
  let c2_i32_1099 : BitVec 32 := 2#32
  let v1261 : BitVec 32 := Scalar.muli v1260 c2_i32_1099
  let c0_i32_1100 : BitVec 32 := 0#32
  let v1262 : BitVec 32 := Scalar.addi v1261 c0_i32_1100
  ![v1262.toNat]
def k0_off65 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c14_i32_1097 : BitVec 32 := 14#32
  let v1259 : BitVec 32 := Scalar.addi v3 c14_i32_1097
  let c16_i32_1098 : BitVec 32 := 16#32
  let v1260 : BitVec 32 := Scalar.remsi v1259 c16_i32_1098
  let c2_i32_1099 : BitVec 32 := 2#32
  let v1261 : BitVec 32 := Scalar.muli v1260 c2_i32_1099
  let c0_i32_1100 : BitVec 32 := 0#32
  let v1262 : BitVec 32 := Scalar.addi v1261 c0_i32_1100
  let c128_i32_1452 : BitVec 32 := 128#32
  let v1622 : BitVec 32 := Scalar.muli v1262 c128_i32_1452
  ![0, v1622.toNat]
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c14_i32_1103 : BitVec 32 := 14#32
  let v1267 : BitVec 32 := Scalar.addi v3 c14_i32_1103
  let c16_i32_1104 : BitVec 32 := 16#32
  let v1268 : BitVec 32 := Scalar.remsi v1267 c16_i32_1104
  let c2_i32_1105 : BitVec 32 := 2#32
  let v1269 : BitVec 32 := Scalar.muli v1268 c2_i32_1105
  let c1_i32_1106 : BitVec 32 := 1#32
  let v1270 : BitVec 32 := Scalar.addi v1269 c1_i32_1106
  let v1271 : BitVec 1 := Scalar.cmpi .eq v1270 v2
  let true_1107 : BitVec 1 := 1#1
  let v1272 : BitVec 1 := Scalar.xori v1271 true_1107
  let v1273 : BitVec 32 := Scalar.extui v1272
  let c0_i32_1108 : BitVec 32 := 0#32
  let v1274 : BitVec 1 := Scalar.cmpi .ne v1273 c0_i32_1108
  v1274

def k0_off66 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c14_i32_1103 : BitVec 32 := 14#32
  let v1267 : BitVec 32 := Scalar.addi v3 c14_i32_1103
  let c16_i32_1104 : BitVec 32 := 16#32
  let v1268 : BitVec 32 := Scalar.remsi v1267 c16_i32_1104
  let c2_i32_1105 : BitVec 32 := 2#32
  let v1269 : BitVec 32 := Scalar.muli v1268 c2_i32_1105
  let c1_i32_1106 : BitVec 32 := 1#32
  let v1270 : BitVec 32 := Scalar.addi v1269 c1_i32_1106
  ![v1270.toNat]
def k0_off67 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c14_i32_1103 : BitVec 32 := 14#32
  let v1267 : BitVec 32 := Scalar.addi v3 c14_i32_1103
  let c16_i32_1104 : BitVec 32 := 16#32
  let v1268 : BitVec 32 := Scalar.remsi v1267 c16_i32_1104
  let c2_i32_1105 : BitVec 32 := 2#32
  let v1269 : BitVec 32 := Scalar.muli v1268 c2_i32_1105
  let c1_i32_1106 : BitVec 32 := 1#32
  let v1270 : BitVec 32 := Scalar.addi v1269 c1_i32_1106
  let c128_i32_1452 : BitVec 32 := 128#32
  let v1622 : BitVec 32 := Scalar.muli v1270 c128_i32_1452
  ![0, v1622.toNat]
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c15_i32_1135 : BitVec 32 := 15#32
  let v1301 : BitVec 32 := Scalar.addi v3 c15_i32_1135
  let c16_i32_1136 : BitVec 32 := 16#32
  let v1302 : BitVec 32 := Scalar.remsi v1301 c16_i32_1136
  let c2_i32_1137 : BitVec 32 := 2#32
  let v1303 : BitVec 32 := Scalar.muli v1302 c2_i32_1137
  let c0_i32_1138 : BitVec 32 := 0#32
  let v1304 : BitVec 32 := Scalar.addi v1303 c0_i32_1138
  let v1305 : BitVec 1 := Scalar.cmpi .eq v1304 v2
  let true_1139 : BitVec 1 := 1#1
  let v1306 : BitVec 1 := Scalar.xori v1305 true_1139
  let v1307 : BitVec 32 := Scalar.extui v1306
  let c0_i32_1140 : BitVec 32 := 0#32
  let v1308 : BitVec 1 := Scalar.cmpi .ne v1307 c0_i32_1140
  v1308

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c15_i32_1135 : BitVec 32 := 15#32
  let v1301 : BitVec 32 := Scalar.addi v3 c15_i32_1135
  let c16_i32_1136 : BitVec 32 := 16#32
  let v1302 : BitVec 32 := Scalar.remsi v1301 c16_i32_1136
  let c2_i32_1137 : BitVec 32 := 2#32
  let v1303 : BitVec 32 := Scalar.muli v1302 c2_i32_1137
  let c0_i32_1138 : BitVec 32 := 0#32
  let v1304 : BitVec 32 := Scalar.addi v1303 c0_i32_1138
  ![v1304.toNat]
def k0_off69 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c15_i32_1135 : BitVec 32 := 15#32
  let v1301 : BitVec 32 := Scalar.addi v3 c15_i32_1135
  let c16_i32_1136 : BitVec 32 := 16#32
  let v1302 : BitVec 32 := Scalar.remsi v1301 c16_i32_1136
  let c2_i32_1137 : BitVec 32 := 2#32
  let v1303 : BitVec 32 := Scalar.muli v1302 c2_i32_1137
  let c0_i32_1138 : BitVec 32 := 0#32
  let v1304 : BitVec 32 := Scalar.addi v1303 c0_i32_1138
  let c128_i32_1452 : BitVec 32 := 128#32
  let v1622 : BitVec 32 := Scalar.muli v1304 c128_i32_1452
  ![0, v1622.toNat]
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c15_i32_1141 : BitVec 32 := 15#32
  let v1309 : BitVec 32 := Scalar.addi v3 c15_i32_1141
  let c16_i32_1142 : BitVec 32 := 16#32
  let v1310 : BitVec 32 := Scalar.remsi v1309 c16_i32_1142
  let c2_i32_1143 : BitVec 32 := 2#32
  let v1311 : BitVec 32 := Scalar.muli v1310 c2_i32_1143
  let c1_i32_1144 : BitVec 32 := 1#32
  let v1312 : BitVec 32 := Scalar.addi v1311 c1_i32_1144
  let v1313 : BitVec 1 := Scalar.cmpi .eq v1312 v2
  let true_1145 : BitVec 1 := 1#1
  let v1314 : BitVec 1 := Scalar.xori v1313 true_1145
  let v1315 : BitVec 32 := Scalar.extui v1314
  let c0_i32_1146 : BitVec 32 := 0#32
  let v1316 : BitVec 1 := Scalar.cmpi .ne v1315 c0_i32_1146
  v1316

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c15_i32_1141 : BitVec 32 := 15#32
  let v1309 : BitVec 32 := Scalar.addi v3 c15_i32_1141
  let c16_i32_1142 : BitVec 32 := 16#32
  let v1310 : BitVec 32 := Scalar.remsi v1309 c16_i32_1142
  let c2_i32_1143 : BitVec 32 := 2#32
  let v1311 : BitVec 32 := Scalar.muli v1310 c2_i32_1143
  let c1_i32_1144 : BitVec 32 := 1#32
  let v1312 : BitVec 32 := Scalar.addi v1311 c1_i32_1144
  ![v1312.toNat]
def k0_off71 (d0 : Dev nD) : Fin 2 → Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.divsi v2 c2_i32
  let c15_i32_1141 : BitVec 32 := 15#32
  let v1309 : BitVec 32 := Scalar.addi v3 c15_i32_1141
  let c16_i32_1142 : BitVec 32 := 16#32
  let v1310 : BitVec 32 := Scalar.remsi v1309 c16_i32_1142
  let c2_i32_1143 : BitVec 32 := 2#32
  let v1311 : BitVec 32 := Scalar.muli v1310 c2_i32_1143
  let c1_i32_1144 : BitVec 32 := 1#32
  let v1312 : BitVec 32 := Scalar.addi v1311 c1_i32_1144
  let c128_i32_1452 : BitVec 32 := 128#32
  let v1622 : BitVec 32 := Scalar.muli v1312 c128_i32_1452
  ![0, v1622.toNat]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KI.Flat.lean ====
/-
The kernel's body written as four runs of a repeated step: 31 barrier signals, 31 remote sends, 16 blocks of the
product, 31 waits for the sends' completion. `body_eq` states that the printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Mesh

open Cert.KernelIdeal Cert.KernelIdeal.Gen
open Idealize.ShloMosaic Idealize.ShloMosaic.TcCoe
open Idealize.SL Idealize.SL.Sem

variable {F : FTy → Type} [FloatOps F]

/-! ## The views -/

abbrev xin : Memref sig .tc .vmem S4096x128 .f32 := Memref.whole cc0_stg0_0
abbrev wHbm : Memref sig .tc .hbm S4096x8192 .f32 := Memref.whole main_arg1
abbrev outB : Memref sig .tc .vmem S128x8192 .f32 := Memref.whole cc0_stg1_0
abbrev xbf : Memref sig .tc .vmem S4096x128 .bf16 := Memref.whole cc0_scratch0
abbrev xg : Memref sig .tc .vmem S128x4096 .bf16 := Memref.whole cc0_scratch1
abbrev wbuf : Memref sig .tc .vmem S2x256x8192 .f32 := Memref.whole cc0_scratch2
abbrev wbf : Memref sig .tc .vmem S2x256x8192 .bf16 := Memref.whole cc0_scratch3

/-- The barrier semaphore. -/
abbrev barS : Sem sig := (SemArray.scalar (sig.barrier 0 rfl) : Sems sig S_).sem

/-! ## Words -/

/-- The device's place as the kernel computes it. -/
abbrev meW (c : Dev nD) : BitVec 32 := Scalar.remsi (Scalar.divsi (Dev.word c) 1#32) 32#32

/-- The device that the `o`-th barrier signal of device `c` goes to. -/
def sigDevN (c : Dev nD) (o : BitVec 32) : Nat :=
  (Scalar.addi 0#32 (Scalar.muli (Scalar.remsi (Scalar.addi (meW c) o) 32#32) 1#32)).toNat

/-- The device that the `o`-th remote copy of device `c` goes to. -/
def sendDevN (c : Dev nD) (o : BitVec 32) : Nat :=
  (Scalar.addi 0#32 (Scalar.muli (Scalar.remsi (Scalar.addi (Scalar.subi (meW c) o) 32#32) 32#32) 1#32)).toNat

theorem sigDevN_lt : ∀ (c : Dev nD) (r : Fin 31), sigDevN c (BitVec.ofNat 32 (1 + r.val)) < nD := by decide +kernel
theorem sendDevN_lt : ∀ (c : Dev nD) (r : Fin 31), sendDevN c (BitVec.ofNat 32 (1 + r.val)) < nD := by decide +kernel

abbrev sigDev (c : Dev nD) (r : Fin 31) : Dev nD := ⟨sigDevN c (BitVec.ofNat 32 (1 + r.val)), sigDevN_lt c r⟩
abbrev sendDev (c : Dev nD) (r : Fin 31) : Dev nD := ⟨sendDevN c (BitVec.ofNat 32 (1 + r.val)), sendDevN_lt c r⟩

/-- The column block that the `s`-th wait of product block `r` is about. -/
def jW (c : Dev nD) (r s : BitVec 32) : BitVec 32 :=
  Scalar.addi (Scalar.muli (Scalar.remsi (Scalar.addi (Scalar.divsi (meW c) 2#32) r) 16#32) 2#32) s

/-- Whether that wait is made: the block is not the device's own. -/
def condW (c : Dev nD) (r s : BitVec 32) : BitVec 1 :=
  Scalar.cmpi .ne (Scalar.extui (Scalar.xori (Scalar.cmpi .eq (jW c r s) (meW c)) 1#1) : BitVec 32) 0#32

abbrev rOff (c : Dev nD) (r s : BitVec 32) : Fin 1 → Nat := ![(jW c r s).toNat]
abbrev bOff (c : Dev nD) (r s : BitVec 32) : Fin 2 → Nat := ![0, (Scalar.muli (jW c r s) 128#32).toNat]

theorem rOff_inb : ∀ (c : Dev nD) (r : Fin 16) (s : Fin 2), ∀ a,
    rOff c (BitVec.ofNat 32 r.val) (BitVec.ofNat 32 s.val) a + S1.size a ≤ S32.size a := by decide +kernel
theorem bOff_inb : ∀ (c : Dev nD) (r : Fin 16) (s : Fin 2), ∀ a,
    bOff c (BitVec.ofNat 32 r.val) (BitVec.ofNat 32 s.val) a + S128x128.size a ≤ S128x4096.size a := by decide +kernel
theorem bOff_words : ∀ (c : Dev nD) (r : Fin 16) (s : Fin 2),
    (Rect.unit (s := S128x4096) (bOff c (BitVec.ofNat 32 r.val) (BitVec.ofNat 32 s.val)) S128x128.size
      (bOff_inb c r s)).WholeWords (EltTy.packing .bf16) := by decide +kernel

theorem sOff_inb : ∀ (r : Fin 31), ∀ a, (![1 + r.val] : Fin 1 → Nat) a + S1.size a ≤ S32.size a := by decide
theorem slot_inb : ∀ (r : Fin 16), ∀ a,
    (![r.val % 2, 0, 0] : Fin 3 → Nat) a + S1x256x8192.size a ≤ S2x256x8192.size a := by decide
theorem wsem_inb : ∀ (r : Fin 16), ∀ a, (![r.val % 2] : Fin 1 → Nat) a + S1.size a ≤ S2.size a := by decide
theorem slot_packed : ∀ (r : Fin 16), (Rect.unit (s := S2x256x8192) ![r.val % 2, 0, 0] S1x256x8192.size (slot_inb r)).PackedRows
    (EltTy.packing .bf16) := by decide

/-! ## Semaphores and sub-views -/

abbrev sendS (r : Fin 31) :=
  ((cc0_scratch4.slice (Rect.unit (s := S32) ![1 + r.val] S1.size (sOff_inb r))).squeeze S_ squeezes_S1_S_).sem
abbrev recvMeS (c : Dev nD) :=
  ((cc0_scratch5.slice (Rect.unit (s := S32) (k0_off4 c) S1.size (k0_off4_inb c))).squeeze S_ squeezes_S1_S_).sem
abbrev recvS (c : Dev nD) (r : Fin 16) (s : Fin 2) :=
  ((cc0_scratch5.slice (Rect.unit (s := S32) (rOff c (BitVec.ofNat 32 r.val) (BitVec.ofNat 32 s.val)) S1.size
    (rOff_inb c r s))).squeeze S_ squeezes_S1_S_).sem
abbrev wS (r : Fin 16) :=
  ((cc0_scratch6.slice (Rect.unit (s := S2) ![r.val % 2] S1.size (wsem_inb r))).squeeze S_ squeezes_S1_S_).sem

/-- The rows of `xbf` that the `r`-th send takes. -/
abbrev srcV (c : Dev nD) (r : Fin 31) : Memref sig .tc .vmem S128x128 .bf16 :=
  xbf.slice (Rect.unit (s := S4096x128) (k0_off6 c (BitVec.ofNat 32 (1 + r.val))) S128x128.size (k0_off6_inb c r)) (fun _ => rfl)
/-- The columns of `xg` that device `c`'s block lands in, on every device. -/
abbrev dstV (c : Dev nD) : Memref sig .tc .vmem S128x128 .bf16 :=
  xg.slice (Rect.unit (s := S128x4096) (k0_off5 c) S128x128.size (k0_off5_inb c)) (fun _ => rfl)
/-- The columns of `xg` that a wait of block `r` is about. -/
abbrev gotV (c : Dev nD) (r : Fin 16) (s : Fin 2) : Memref sig .tc .vmem S128x128 .bf16 :=
  xg.slice (Rect.unit (s := S128x4096) (bOff c (BitVec.ofNat 32 r.val) (BitVec.ofNat 32 s.val)) S128x128.size (bOff_inb c r s)) (fun _ => rfl)
abbrev anyV : Memref sig .tc .vmem S128x128 .bf16 :=
  xbf.slice (Rect.unit (s := S4096x128) ![0, 0] S128x128.size inb_S4096x128_S128x128_0_0) (fun _ => rfl)
/-- The rows of `w` that product block `r` multiplies by. -/
abbrev wRows (c : Dev nD) (r : Fin 16) : Memref sig .tc .hbm S256x8192 .f32 :=
  wHbm.slice (Rect.unit (s := S4096x8192) (k0_off1 c (BitVec.ofNat 32 r.val)) S256x8192.size (k0_off1_inb c r)) (fun _ => rfl)
abbrev slotR (r : Fin 16) : Rect S2x256x8192 :=
  Rect.unit (s := S2x256x8192) ![r.val % 2, 0, 0] S1x256x8192.size (slot_inb r)
/-- The slot of `wbuf` that block `r`'s rows are copied into. -/
abbrev wSlot (r : Fin 16) : Memref sig .tc .vmem S256x8192 .f32 :=
  (wbuf.slice (slotR r) (fun _ => rfl)).squeeze S256x8192 squeezes_S1x256x8192_S256x8192

/-! ## The payloads -/

/-- A block of `w` cast to bf16. -/
abbrev castW (v : Vec F S1x256x8192 .f32) : FVec F S1x256x8192 .bf16 := k0_pay4 v
/-- One product. -/
abbrev prod (a : Vec F S128x256 .bf16) (b : Vec F S1x256x8192 .bf16) : FVec F S128x8192 .f32 := k0_pay5 a b
/-- One product added to what was there. -/
abbrev prodAdd (a : Vec F S128x256 .bf16) (b : Vec F S1x256x8192 .bf16) (o : Vec F S128x8192 .f32) : FVec F S128x8192 .f32 :=
  k0_pay7 a b o

/-! ## The steps -/

/-- Programs of the kernel. -/
abbrev PR (F : FTy → Type) [FloatOps F] (α : Type) := Prog (TpuEff nD τ sig (Elt F) Λ₀ Proc.tc) α

abbrev sigStep (c : Dev nD) (r : Fin 31) : PR F PUnit := semSignalWord (sigDev c r) barS 1#32

abbrev sendStep (c : Dev nD) (r : Fin 31) : PR F PUnit :=
  Prog.lift (.enqueueDma (srcV c r) (.remote (Dev.tc (sendDev c r)) (dstV c) (.dma (sendS r))) (.dma (recvMeS c))
    ((Memref.isWhole_whole cc0_scratch0).wordExact_slice rfl _ (k0_off6_wordsbf16 c r))
    ((Memref.isWhole_whole cc0_scratch1).wordExact_slice rfl _ (k0_off5_wordsbf16 c)) ⟨⟨rfl, Or.inl rfl⟩, trivial⟩)

abbrev waitSend (c : Dev nD) (r : Fin 31) : PR F PUnit :=
  Prog.lift (.waitDma2 (sendS r) (dstV c) (srcV c r)
    ((Memref.isWhole_whole cc0_scratch1).wordExact_slice rfl _ (k0_off5_wordsbf16 c))
    ((Memref.isWhole_whole cc0_scratch0).wordExact_slice rfl _ (k0_off6_wordsbf16 c r)))

abbrev waitRecv (c : Dev nD) (r : Fin 16) (s : Fin 2) : PR F PUnit :=
  if h : condW c (BitVec.ofNat 32 r.val) (BitVec.ofNat 32 s.val) = 1#1 then do
    Prog.lift (.waitDma2 (recvS c r s) anyV (gotV c r s)
      ((Memref.isWhole_whole cc0_scratch0).wordExact_slice rfl _ wordsbf16_S4096x128_S128x128_0_0)
      ((Memref.isWhole_whole cc0_scratch1).wordExact_slice rfl _ (bOff_words c r s)))
    pure ⟨⟩
  else do
    pure ⟨⟩

abbrev copyW (c : Dev nD) (r : Fin 16) : PR F PUnit :=
  Prog.lift (.enqueueDma (wRows c r) (.here (wSlot r)) (.dma (wS r)) (View.wordExact_bits rfl)
    ((View.wordExact_bits rfl).reshape _ _) ⟨Or.inl rfl, trivial⟩)

abbrev waitW (c : Dev nD) (r : Fin 16) : PR F PUnit :=
  Prog.lift (.waitDma2 (wS r) (wRows c r) (wSlot r) (View.wordExact_bits rfl) ((View.wordExact_bits rfl).reshape _ _))

abbrev ldOut : PR F (Vec F S128x8192 .f32) :=
  Prog.lift (.load outB (Rect.unit (s := S128x8192) ![0, 0] S128x8192.size inb_S128x8192_S128x8192_0_0).toLoadRect (View.loadsAt_vmem h_S128x8192))

abbrev stOut (v : FVec F S128x8192 .f32) : PR F PUnit :=
  Prog.lift (.store outB (Rect.unit (s := S128x8192) ![0, 0] S128x8192.size inb_S128x8192_S128x8192_0_0) v Finset.univ
    (View.stores_vmem_bits_univ h_S128x8192 rfl) (.inl rfl))

abbrev ldWbf (r : Fin 16) : PR F (Vec F S1x256x8192 .bf16) :=
  Prog.lift (.load wbf (slotR r).toLoadRect (View.loadsAt_vmem h_S1x256x8192))

abbrev ldXg (c : Dev nD) (r : Fin 16) : PR F (Vec F S128x256 .bf16) :=
  Prog.lift (.load xg (Rect.unit (s := S128x4096) (k0_off11 c (BitVec.ofNat 32 r.val)) S128x256.size (k0_off11_inb c r)).toLoadRect
    (View.loadsAt_vmem h_S128x256))

/-- The first half of product block `r`: its columns have landed, its rows of `w` are cast; then `k`. -/
abbrev blockIn (c : Dev nD) (r : Fin 16) (k : PR F PUnit) : PR F PUnit := do
  waitRecv c r 0
  waitRecv c r 1
  waitW c r
  let v : Vec F S1x256x8192 .f32 ← Prog.lift (.load wbuf (slotR r).toLoadRect (View.loadsAt_vmem h_S1x256x8192))
  let _ ← ldWbf r
  Prog.lift (.store wbf (slotR r) (castW v) Finset.univ
    (View.stores_vmem h_S1x256x8192 ((Memref.isWhole_whole cc0_scratch3).storeExact_slice rfl _ (slot_packed r)) (fun _ => rfl)) (.inl rfl))
  k

/-- The second half of block 0: the product. -/
abbrev blockOut0 (c : Dev nD) : PR F PUnit := do
  let a ← ldXg c 0
  let b ← ldWbf 0
  let _ ← ldOut
  stOut (prod a b)

/-- The second half of a later block: the product, added. -/
abbrev blockOut (c : Dev nD) (r : Fin 16) : PR F PUnit := do
  let a ← ldXg c r
  let b ← ldWbf r
  let o ← ldOut
  let _ ← ldOut
  stOut (prodAdd a b o)

/-- `n` steps of a run of 31, from step `31 - n`, and then `k`. -/
def run31 (f : Fin 31 → PR F PUnit) (k : PR F PUnit) : (n : Nat) → n ≤ 31 → PR F PUnit
  | 0, _ => k
  | n + 1, h => do f ⟨31 - (n + 1), by omega⟩; run31 f k n (by omega)

/-- Blocks `14 - n` to `13`, each followed by the copy of the rows two blocks on, and then `k`. -/
def blocks (c : Dev nD) (k : PR F PUnit) : (n : Nat) → n ≤ 13 → PR F PUnit
  | 0, _ => k
  | n + 1, h => blockIn c ⟨14 - (n + 1), by omega⟩ do
    copyW c ⟨14 - (n + 1) + 2, by omega⟩
    blockOut c ⟨14 - (n + 1), by omega⟩
    blocks c k n (by omega)

/-- The device's own block: cast, kept in `xbf`, its own rows put in their columns of `xg`. -/
abbrev ownBlock (c : Dev nD) : PR F PUnit := do
  let x : Vec F S4096x128 .f32 ← Prog.lift (.load xin (Rect.unit (s := S4096x128) ![0, 0] S4096x128.size inb_S4096x128_S4096x128_0_0).toLoadRect (View.loadsAt_vmem h_S4096x128))
  let _ : Vec F S4096x128 .bf16 ← Prog.lift (.load xbf (Rect.unit (s := S4096x128) ![0, 0] S4096x128.size inb_S4096x128_S4096x128_0_0).toLoadRect (View.loadsAt_vmem h_S4096x128))
  Prog.lift (.store xbf (Rect.unit (s := S4096x128) ![0, 0] S4096x128.size inb_S4096x128_S4096x128_0_0) (k0_pay2 (k0_pay1 x)) Finset.univ (View.stores_vmem h_S4096x128 ((Memref.isWhole_whole cc0_scratch0).storeExact_slice rfl _ packedbf16_S4096x128_S4096x128_0_0) (fun _ => rfl)) (.inl rfl))
  let v : Vec F S128x128 .bf16 ← Prog.lift (.load xbf (Rect.unit (s := S4096x128) (k0_off2 c) S128x128.size (k0_off2_inb c)).toLoadRect (View.loadsAt_vmem h_S128x128))
  let _ : Vec F S128x128 .bf16 ← Prog.lift (.load xg (Rect.unit (s := S128x4096) (k0_off3 c) S128x128.size (k0_off3_inb c)).toLoadRect (View.loadsAt_vmem h_S128x128))
  Prog.lift (.store xg (Rect.unit (s := S128x4096) (k0_off3 c) S128x128.size (k0_off3_inb c)) (k0_pay3 v) Finset.univ (View.stores_vmem h_S128x128 ((Memref.isWhole_whole cc0_scratch1).storeExact_slice rfl _ (k0_off3_packedbf16 c)) (fun _ => rfl)) (.inl rfl))

/-- The program after the signals and the barrier's wait. -/
abbrev afterBarrier (c : Dev nD) : PR F PUnit := do
  copyW c 0
  copyW c 1
  ownBlock c
  run31 (sendStep c) (blockIn c 0 do
    copyW c 2
    blockOut0 c
    blocks c (blockIn c 14 do
      blockOut c 14
      blockIn c 15 do
        blockOut c 15
        run31 (waitSend c) (pure ⟨⟩) 31 (by omega)) 13 (by omega)) 31 (by omega)

/-- The kernel's body at device `c`. -/
def bodyL (c : Dev nD) : PR F PUnit :=
  run31 (sigStep c) (do semWaitWord barS 31#32; afterBarrier c) 31 (by omega)

/-- Two programs that begin with the same effect are equal if they go on equally. -/
theorem op_congr {E : Type → Type _} {α β : Type} {e e' : E β} {k k' : β → Prog E α} (he : e = e')
    (hk : ∀ x, k x = k' x) : Prog.op e k = Prog.op e' k' := by subst he; exact congrArg _ (funext hk)

/-- A conditional effect with what follows it in both branches, and then `g`, is the conditional effect followed by the rest. -/
theorem dite_bind_congr {E : Type → Type _} {α γ : Type} {p p' : BitVec 1} {e : p = 1#1 → E PUnit} {e' : p' = 1#1 → E PUnit}
    {K : Prog E γ} {g : γ → Prog E α} {k' : Prog E α} (hp : p = p')
    (he : ∀ h, e h = e' (hp ▸ h)) (hk : K >>= g = k') :
    (if h : p = 1#1 then Prog.op (e h) (fun _ => K) else K) >>= g
      = (if h : p' = 1#1 then Prog.op (e' h) (fun _ => Prog.ret PUnit.unit) else Prog.ret PUnit.unit) >>= fun _ => k' := by
  subst hp hk
  by_cases h : p = 1#1
  · simp only [h, dite_true]; rw [he h]; rfl
  · simp only [h, dite_false]; rfl

/-- A conditional effect with what follows it in both branches is the conditional effect followed by the rest. -/
theorem dite_congr {E : Type → Type _} {α : Type} {p p' : BitVec 1} {e : p = 1#1 → E PUnit} {e' : p' = 1#1 → E PUnit}
    {K k' : Prog E α} (hp : p = p') (he : ∀ h, e h = e' (hp ▸ h)) (hk : K = k') :
    (if h : p = 1#1 then Prog.op (e h) (fun _ => K) else K)
      = (if h : p' = 1#1 then Prog.op (e' h) (fun _ => Prog.ret PUnit.unit) else Prog.ret PUnit.unit) >>= fun _ => k' := by
  subst hp hk
  by_cases h : p = 1#1
  · simp only [h, dite_true]; rw [he h]; rfl
  · simp only [h, dite_false]; rfl

set_option pp.maxSteps 300 in
set_option maxRecDepth 65536 in
/-- The printed body is this program. -/
theorem body_eq : bodyAt0 (F := F) t0_0 = (do let c ← Prog.lift .deviceId; bodyL (F := F) c) := by
  unfold bodyAt0
  rw [cc0_body_eq_skeleton]
  simp only [cc0_body_skel,
    k0_part1_eq_skeleton, k0_part1_skel, k0_part2_eq_skeleton, k0_part2_skel, k0_part3_eq_skeleton,
    k0_part3_skel, k0_part4_eq_skeleton, k0_part4_skel, k0_part5_eq_skeleton, k0_part5_skel,
    k0_part6_eq_skeleton, k0_part6_skel, k0_part7_eq_skeleton, k0_part7_skel, k0_part8_eq_skeleton,
    k0_part8_skel, k0_part9_eq_skeleton, k0_part9_skel, k0_part10_eq_skeleton, k0_part10_skel,
    k0_part11_eq_skeleton, k0_part11_skel, k0_part12_eq_skeleton, k0_part12_skel, k0_part13_eq_skeleton,
    k0_part13_skel, k0_part14_eq_skeleton, k0_part14_skel, k0_part15_eq_skeleton, k0_part15_skel,
    k0_part16_eq_skeleton, k0_part16_skel, k0_part17_eq_skeleton, k0_part17_skel, k0_part18_eq_skeleton,
    k0_part18_skel, k0_part19_eq_skeleton, k0_part19_skel, k0_part20_eq_skeleton, k0_part20_skel,
    k0_part21_eq_skeleton, k0_part21_skel, k0_part22_eq_skeleton, k0_part22_skel, k0_part23_eq_skeleton,
    k0_part23_skel, k0_part24_eq_skeleton, k0_part24_skel, k0_part25_eq_skeleton, k0_part25_skel,
    k0_part26_eq_skeleton, k0_part26_skel, k0_part27_eq_skeleton, k0_part27_skel, k0_part28_eq_skeleton,
    k0_part28_skel, k0_part29_eq_skeleton, k0_part29_skel, k0_part30_eq_skeleton, k0_part30_skel,
    k0_part31_eq_skeleton, k0_part31_skel, k0_part32_eq_skeleton, k0_part32_skel, k0_part33_eq_skeleton,
    k0_part33_skel, k0_part34_eq_skeleton, k0_part34_skel, k0_part35_eq_skeleton, k0_part35_skel,
    k0_part36_eq_skeleton, k0_part36_skel, k0_part37_eq_skeleton, k0_part37_skel, k0_part38_eq_skeleton,
    k0_part38_skel, k0_part39_eq_skeleton, k0_part39_skel, k0_part40_eq_skeleton, k0_part40_skel,
    k0_part41_eq_skeleton, k0_part41_skel, k0_part42_eq_skeleton, k0_part42_skel, k0_part43_eq_skeleton,
    k0_part43_skel, k0_part44_eq_skeleton, k0_part44_skel, k0_part45_eq_skeleton, k0_part45_skel,
    k0_part46_eq_skeleton, k0_part46_skel, k0_part47_eq_skeleton, k0_part47_skel, k0_part48_eq_skeleton,
    k0_part48_skel, k0_part49_eq_skeleton, k0_part49_skel, k0_part50_eq_skeleton, k0_part50_skel,
    k0_part51_eq_skeleton, k0_part51_skel, k0_part52_eq_skeleton, k0_part52_skel, k0_part53_eq_skeleton,
    k0_part53_skel, k0_part54_eq_skeleton, k0_part54_skel, k0_part55_eq_skeleton, k0_part55_skel,
    k0_part56_eq_skeleton, k0_part56_skel,
    bind_assoc, Prog.bind_assoc, pure_bind, Prog.bind_ret, Prog.pure_eq_ret, Prog.bind_lift, Prog.bind_op, semSignalWord]
  refine op_congr rfl fun c => ?_
  iterate 31 refine op_congr rfl fun _ => ?_
  refine op_congr rfl fun _ => ?_
  iterate 2 refine op_congr rfl fun _ => ?_
  iterate 6 refine op_congr rfl fun _ => ?_
  iterate 31 refine op_congr rfl fun _ => ?_
  iterate 2 first
    | refine dite_bind_congr rfl (fun _ => rfl) ?_
    | refine dite_congr rfl (fun _ => rfl) ?_
  iterate 9 refine op_congr rfl fun _ => ?_
  iterate 13
    iterate 2 first
      | refine dite_bind_congr rfl (fun _ => rfl) ?_
      | refine dite_congr rfl (fun _ => rfl) ?_
    iterate 10 refine op_congr rfl fun _ => ?_
  iterate 2
    iterate 2 first
      | refine dite_bind_congr rfl (fun _ => rfl) ?_
      | refine dite_congr rfl (fun _ => rfl) ?_
    iterate 9 refine op_congr rfl fun _ => ?_
  iterate 31 refine op_congr rfl fun _ => ?_
  rfl

end Cert.KernelIdeal.Mesh
end
-- ==== Proof.KI.Geom.lean ====
/-
Where the devices, semaphores and sub-buffers of the flat body lie, in plain numbers: the peer of each signal and each
remote copy, the number of each semaphore, and the elements under each sub-view.
-/
module

public import proofs.«01_k».proof.Proof.KI.Flat
public import Idealize.ShloMosaic.Lib.ViewIndex
public import Idealize.ShloMosaic.Lib.SparseCore.ProtocolKit

@[expose] public section

noncomputable section

namespace Cert.KernelIdeal.Mesh

open Cert.KernelIdeal Cert.KernelIdeal.Gen
open Idealize.ShloMosaic Idealize.ShloMosaic.TcCoe
open Idealize.SL Idealize.SL.Sem

/-- Two indices of a matrix are equal if their coordinates are. -/
theorem pair_ext {d : Fin 2 → Nat} {x y : (⟨2, d⟩ : Shape).Idx} (h0 : (x 0).val = (y 0).val) (h1 : (x 1).val = (y 1).val) : x = y :=
  funext fun a => match a with
    | ⟨0, _⟩ => Fin.ext h0
    | ⟨1, _⟩ => Fin.ext h1

/-! ## Peers -/

theorem sigDev_val : ∀ (c : Dev nD) (r : Fin 31), (sigDev c r).val = (c.val + 1 + r.val) % 32 := by decide +kernel
theorem sendDev_val : ∀ (c : Dev nD) (r : Fin 31), (sendDev c r).val = (c.val + 31 - r.val) % 32 := by decide +kernel

/-- A device is a number below 32. -/
theorem dev_lt (c : Dev nD) : c.val < 32 := c.isLt

theorem sigDev_ne (c : Dev nD) (r : Fin 31) : sigDev c r ≠ c := fun h => by
  have := congrArg Fin.val h; rw [sigDev_val] at this; have := dev_lt c; omega
theorem sendDev_ne (c : Dev nD) (r : Fin 31) : sendDev c r ≠ c := fun h => by
  have := congrArg Fin.val h; rw [sendDev_val] at this; have := dev_lt c; omega
theorem sigDev_inj (c : Dev nD) : Function.Injective (sigDev c) := fun r r' h => by
  have h := congrArg Fin.val h; rw [sigDev_val, sigDev_val] at h; have := dev_lt c; exact Fin.ext (by omega)
theorem sendDev_inj (c : Dev nD) : Function.Injective (sendDev c) := fun r r' h => by
  have h := congrArg Fin.val h; rw [sendDev_val, sendDev_val] at h; have := dev_lt c; exact Fin.ext (by omega)

/-- The signals of a device go to its 31 peers, one each; -/
theorem image_sigDev (c : Dev nD) : Finset.univ.image (sigDev c) = Finset.univ.erase c := by
  ext p
  simp only [Finset.mem_image, Finset.mem_univ, true_and, Finset.mem_erase, and_true]
  refine ⟨fun ⟨r, h⟩ => h ▸ sigDev_ne c r, fun h => ?_⟩
  have hp := dev_lt p; have hc := dev_lt c
  have hne : p.val ≠ c.val := fun e => h (Fin.ext e)
  refine ⟨⟨(p.val + 31 - c.val) % 32, by omega⟩, Fin.ext ?_⟩
  rw [sigDev_val]; dsimp only; omega
/-- and so do its remote copies. -/
theorem image_sendDev (c : Dev nD) : Finset.univ.image (sendDev c) = Finset.univ.erase c := by
  ext p
  simp only [Finset.mem_image, Finset.mem_univ, true_and, Finset.mem_erase, and_true]
  refine ⟨fun ⟨r, h⟩ => h ▸ sendDev_ne c r, fun h => ?_⟩
  have hp := dev_lt p; have hc := dev_lt c
  have hne : p.val ≠ c.val := fun e => h (Fin.ext e)
  refine ⟨⟨(c.val + 31 - p.val) % 32, by omega⟩, Fin.ext ?_⟩
  rw [sendDev_val]; dsimp only; omega

/-- The chunk of 256 columns that block `r` of device `c` multiplies. -/
def chunk (c : Dev nD) (r : Fin 16) : Fin 16 := ⟨(c.val / 2 + r.val) % 16, by omega⟩
/-- The peer whose columns the `s`-th wait of block `r` is about. -/
def peer (c : Dev nD) (r : Fin 16) (s : Fin 2) : Dev nD := ⟨2 * (chunk c r).val + s.val, show _ < 32 by have := (chunk c r).isLt; omega⟩

theorem rOff_val : ∀ (c : Dev nD) (r : Fin 16) (s : Fin 2), (jW c (BitVec.ofNat 32 r.val) (BitVec.ofNat 32 s.val)).toNat = (peer c r s).val := by
  decide +kernel
theorem bOff_eq : ∀ (c : Dev nD) (r : Fin 16) (s : Fin 2),
    bOff c (BitVec.ofNat 32 r.val) (BitVec.ofNat 32 s.val) = ![0, 128 * (peer c r s).val] := by decide +kernel
theorem condW_iff : ∀ (c : Dev nD) (r : Fin 16) (s : Fin 2),
    condW c (BitVec.ofNat 32 r.val) (BitVec.ofNat 32 s.val) = 1#1 ↔ peer c r s ≠ c := by decide +kernel

theorem chunk_inj (c : Dev nD) : Function.Injective (chunk c) := fun r r' h => by
  have h := congrArg Fin.val h; unfold chunk at h; dsimp only at h; exact Fin.ext (by omega)
/-- Every device is the peer of one wait. -/
theorem peer_bijective (c : Dev nD) : Function.Bijective (fun x : Fin 16 × Fin 2 => peer c x.1 x.2) := by
  constructor
  · rintro ⟨r, s⟩ ⟨r', s'⟩ h
    have h := congrArg Fin.val h; unfold peer at h; dsimp only at h
    have hs : s.val = s'.val := by omega
    have hr : (chunk c r).val = (chunk c r').val := by omega
    exact Prod.ext (chunk_inj c (Fin.ext hr)) (Fin.ext hs)
  · intro p
    have hp := dev_lt p; have hc := dev_lt c
    refine ⟨(⟨(p.val / 2 + 16 - c.val / 2) % 16, by omega⟩, ⟨p.val % 2, by omega⟩), Fin.ext ?_⟩
    unfold peer chunk; dsimp only; omega

/-! ## Semaphores -/

theorem sendS_val : ∀ r : Fin 31, (sendS r).val = 3 + r.val := by decide +kernel
theorem recvMeS_val : ∀ c : Dev nD, (recvMeS c).val = 34 + c.val := by decide +kernel
theorem recvS_val : ∀ (c : Dev nD) (r : Fin 16) (s : Fin 2), (recvS c r s).val = 34 + (peer c r s).val := by decide +kernel
theorem wS_val : ∀ r : Fin 16, (wS r).val = 66 + r.val % 2 := by decide +kernel

theorem recvS_eq (c : Dev nD) (r : Fin 16) (s : Fin 2) : recvS c r s = recvMeS (peer c r s) :=
  Fin.ext (by rw [recvS_val, recvMeS_val])
theorem wS_congr {r r' : Fin 16} (h : r.val % 2 = r'.val % 2) : wS r = wS r' := Fin.ext (by rw [wS_val, wS_val, h])

/-! ## The elements under each sub-view -/

theorem mem_srcV (c : Dev nD) (r : Fin 31) (i : S4096x128.Idx) :
    i ∈ (srcV c r).view.set ↔ (i 0).val / 128 = (sendDev c r).val := by
  rw [show (srcV c r).view.set = _ from View.set_slice_whole _ _]
  refine (Rect.mem_set_unit (s := S4096x128)).trans ?_
  rw [k0_off6_eq, sendDev_val, Fin.forall_fin_two]
  have h0 : (i 0).val < 4096 := (i 0).isLt
  have h1 : (i 1).val < 128 := (i 1).isLt
  have hc := dev_lt c
  show (128 * ((c.val + 31 - r.val) % 32) ≤ (i 0).val ∧ (i 0).val < 128 * ((c.val + 31 - r.val) % 32) + 128) ∧ (0 ≤ (i 1).val ∧ (i 1).val < 0 + 128) ↔ _
  omega

theorem mem_dstV (c : Dev nD) (i : S128x4096.Idx) : i ∈ (dstV c).view.set ↔ (i 1).val / 128 = c.val := by
  rw [show (dstV c).view.set = _ from View.set_slice_whole _ _]
  refine (Rect.mem_set_unit (s := S128x4096)).trans ?_
  rw [k0_off5_eq, Fin.forall_fin_two]
  have h0 : (i 0).val < 128 := (i 0).isLt
  have h1 : (i 1).val < 4096 := (i 1).isLt
  show (0 ≤ (i 0).val ∧ (i 0).val < 0 + 128) ∧ (128 * c.val ≤ (i 1).val ∧ (i 1).val < 128 * c.val + 128) ↔ _
  omega

theorem mem_wRows (c : Dev nD) (r : Fin 16) (i : S4096x8192.Idx) :
    i ∈ (wRows c r).view.set ↔ (i 0).val / 256 = (chunk c r).val := by
  rw [show (wRows c r).view.set = _ from View.set_slice_whole _ _]
  refine (Rect.mem_set_unit (s := S4096x8192)).trans ?_
  rw [k0_off1_eq, Fin.forall_fin_two]
  have h0 : (i 0).val < 4096 := (i 0).isLt
  have h1 : (i 1).val < 8192 := (i 1).isLt
  show (256 * ((c.val / 2 + r.val) % 16) ≤ (i 0).val ∧ (i 0).val < 256 * ((c.val / 2 + r.val) % 16) + 256)
    ∧ (0 ≤ (i 1).val ∧ (i 1).val < 0 + 8192) ↔ (i 0).val / 256 = (c.val / 2 + r.val) % 16
  omega

theorem mem_slotR (r : Fin 16) (i : S2x256x8192.Idx) : i ∈ (slotR r).set ↔ (i 0).val = r.val % 2 := by
  refine (Rect.mem_set_unit (s := S2x256x8192)).trans ?_
  have h0 : (i 0).val < 2 := (i 0).isLt
  have h1 : (i 1).val < 256 := (i 1).isLt
  have h2 : (i 2).val < 8192 := (i 2).isLt
  constructor
  · intro h
    have h := h 0
    have h : r.val % 2 ≤ (i 0).val ∧ (i 0).val < r.val % 2 + 1 := h
    omega
  · intro h a
    match a with
    | ⟨0, _⟩ => show r.val % 2 ≤ (i 0).val ∧ (i 0).val < r.val % 2 + 1; omega
    | ⟨1, _⟩ => show 0 ≤ (i 1).val ∧ (i 1).val < 0 + 256; omega
    | ⟨2, _⟩ => show 0 ≤ (i 2).val ∧ (i 2).val < 0 + 8192; omega

theorem set_wSlot (r : Fin 16) : (wSlot r).view.set = (slotR r).set := by
  show (((View.whole cc0_scratch2).slice (slotR r)).reshape _ _).set = _
  rw [View.set_reshape, View.set_slice_whole]

theorem mem_wSlot (r : Fin 16) (i : S2x256x8192.Idx) : i ∈ (wSlot r).view.set ↔ (i 0).val = r.val % 2 := by
  rw [set_wSlot]; exact mem_slotR r i

theorem mem_ldXg (c : Dev nD) (r : Fin 16) (i : S128x4096.Idx) :
    i ∈ (Rect.unit (s := S128x4096) (k0_off11 c (BitVec.ofNat 32 r.val)) S128x256.size (k0_off11_inb c r)).set
      ↔ (i 1).val / 256 = (chunk c r).val := by
  refine (Rect.mem_set_unit (s := S128x4096)).trans ?_
  rw [k0_off11_eq, Fin.forall_fin_two]
  have h0 : (i 0).val < 128 := (i 0).isLt
  have h1 : (i 1).val < 4096 := (i 1).isLt
  show (0 ≤ (i 0).val ∧ (i 0).val < 0 + 128) ∧ (256 * ((c.val / 2 + r.val) % 16) ≤ (i 1).val ∧ (i 1).val < 256 * ((c.val / 2 + r.val) % 16) + 256)
    ↔ (i 1).val / 256 = (c.val / 2 + r.val) % 16
  omega

/-- The columns block `r` loads are the columns of its two peers. -/
theorem ldXg_cols (c : Dev nD) (r : Fin 16) :
    (Rect.unit (s := S128x4096) (k0_off11 c (BitVec.ofNat 32 r.val)) S128x256.size (k0_off11_inb c r)).set
      = (dstV (peer c r 0)).view.set ∪ (dstV (peer c r 1)).view.set := by
  ext i
  rw [mem_ldXg, Finset.mem_union, mem_dstV, mem_dstV]
  show _ ↔ (i 1).val / 128 = 2 * (chunk c r).val + 0 ∨ (i 1).val / 128 = 2 * (chunk c r).val + 1
  have h1 : (i 1).val < 4096 := (i 1).isLt
  omega

theorem disj_srcV (c : Dev nD) {r r' : Fin 31} (h : r ≠ r') : Disjoint (srcV c r).view.set (srcV c r').view.set :=
  Finset.disjoint_left.mpr fun i hi hi' => h (sendDev_inj c (Fin.ext (((mem_srcV c r i).mp hi).symm.trans ((mem_srcV c r' i).mp hi'))))
theorem disj_dstV {c c' : Dev nD} (h : c ≠ c') : Disjoint (dstV c).view.set (dstV c').view.set :=
  Finset.disjoint_left.mpr fun i hi hi' => h (Fin.ext (((mem_dstV c i).mp hi).symm.trans ((mem_dstV c' i).mp hi')))
theorem disj_wRows (c : Dev nD) {r r' : Fin 16} (h : r ≠ r') : Disjoint (wRows c r).view.set (wRows c r').view.set :=
  Finset.disjoint_left.mpr fun i hi hi' => h (chunk_inj c (Fin.ext (((mem_wRows c r i).mp hi).symm.trans ((mem_wRows c r' i).mp hi'))))

theorem cover_dstV (i : S128x4096.Idx) : ∃ c : Dev nD, i ∈ (dstV c).view.set := by
  have h1 : (i 1).val < 4096 := (i 1).isLt
  exact ⟨⟨(i 1).val / 128, show _ < 32 by omega⟩, (mem_dstV _ i).mpr rfl⟩
theorem cover_wRows (c : Dev nD) (i : S4096x8192.Idx) : ∃ r : Fin 16, i ∈ (wRows c r).view.set := by
  have h0 : (i 0).val < 4096 := (i 0).isLt
  have hc := dev_lt c
  refine ⟨⟨((i 0).val / 256 + 16 - c.val / 2) % 16, by omega⟩, (mem_wRows c _ i).mpr ?_⟩
  unfold chunk; dsimp only; omega

/-- The rows of `xbf` that no remote copy takes: the device's own. -/
def ownRows (c : Dev nD) : Finset S4096x128.Idx := Finset.univ \ Finset.univ.biUnion (fun r : Fin 31 => (srcV c r).view.set)

theorem slots_union (r r' : Fin 16) (h : r.val % 2 ≠ r'.val % 2) :
    (wSlot r).view.set ∪ (wSlot r').view.set = (Finset.univ : Finset S2x256x8192.Idx) := by
  ext i
  have h0 : (i 0).val < 2 := (i 0).isLt
  rw [Finset.mem_union, mem_wSlot, mem_wSlot]
  simp only [Finset.mem_univ, iff_true]; omega
theorem slots_disj (r r' : Fin 16) (h : r.val % 2 ≠ r'.val % 2) : Disjoint (wSlot r).view.set (wSlot r').view.set :=
  Finset.disjoint_left.mpr fun i hi hi' => h (((mem_wSlot r i).mp hi).symm.trans ((mem_wSlot r' i).mp hi'))
theorem slot_congr {r r' : Fin 16} (h : r.val % 2 = r'.val % 2) : (wSlot r).view.set = (wSlot r').view.set := by
  ext i; rw [mem_wSlot, mem_wSlot, h]

end Cert.KernelIdeal.Mesh
end
-- ==== Proof.KI.Content.lean ====
/-
What the buffers hold during a run, as functions of the memory at launch: the rounded block of `x` each device sends from,
the gathered row block, the chunks of `w`, and the running sum in the output block; and that each copy, load and store
moves those contents.
-/
module

public import proofs.«01_k».proof.Proof.KI.Geom
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Mesh

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The block of `x` on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s copy of `w`. -/
def wAll (c : Dev nD) : Buf (Elt F) ((c : Thread nD τ).loc main_arg1) := m ((c : Thread nD τ).loc main_arg1)

/-- The block of `x` on device `c`, rounded. -/
def xb (c : Dev nD) : Vec F S4096x128 .bf16 := k0_pay2 (k0_pay1 (xstg m ρ c))

/-- The element of a rounded block that lands at `i` of device `p`'s gathered rows. -/
def gIdx (p : Dev nD) (i : S128x4096.Idx) : S4096x128.Idx := fun a => match a with
  | ⟨0, _⟩ => (⟨128 * p.val + (i 0).val, by have := dev_lt p; have h : (i 0).val < 128 := (i 0).isLt; show _ < 4096; omega⟩ : Fin 4096)
  | ⟨1, _⟩ => (⟨(i 1).val % 128, Nat.mod_lt _ (by decide)⟩ : Fin 128)
/-- The device that an element of the gathered rows comes from. -/
def gDev (i : S128x4096.Idx) : Dev nD := ⟨(i 1).val / 128, by have h : (i 1).val < 4096 := (i 1).isLt; show _ < 32; omega⟩
/-- The row block of device `p`, gathered from every device. -/
def gath (p : Dev nD) : Buf (Elt F) ((p : Thread nD τ).loc cc0_scratch1) := fun i => xb m ρ (gDev i) (gIdx p i)

/-- The chunk of `w` that block `r` of device `c` multiplies. -/
def wIdx (c : Dev nD) (r : Fin 16) (x : S256x8192.Idx) : S4096x8192.Idx := fun a => match a with
  | ⟨0, _⟩ => (⟨256 * (chunk c r).val + (x 0).val, by have := (chunk c r).isLt; have h : (x 0).val < 256 := (x 0).isLt; show _ < 4096; omega⟩ : Fin 4096)
  | ⟨1, _⟩ => x 1
def wSq (c : Dev nD) (r : Fin 16) : Vec F S256x8192 .f32 := fun x => wAll m c (wIdx c r x)
theorem sq_numel : S256x8192.numel = S1x256x8192.numel := by decide +kernel
def wChunk (c : Dev nD) (r : Fin 16) : Vec F S1x256x8192 .f32 := fun i => wSq m c r ((Shape.reshapeEquiv sq_numel).symm i)

abbrev colR (c : Dev nD) (r : Fin 16) : Rect S128x4096 :=
  Rect.unit (s := S128x4096) (k0_off11 c (BitVec.ofNat 32 r.val)) S128x256.size (k0_off11_inb c r)
/-- The columns of the gathered rows that block `r` of device `c` multiplies. -/
def aCol (c : Dev nD) (r : Fin 16) : Vec F S128x256 .bf16 := fun i => gath m ρ c ((colR c r).emb i)

/-- The output block after `r + 1` blocks. -/
def acc (c : Dev nD) : ℕ → Vec F S128x8192 .f32
  | 0 => prod (aCol m ρ c 0) (castW (wChunk m c 0))
  | r + 1 => prodAdd (aCol m ρ c (Fin.ofNat 16 (r + 1))) (castW (wChunk m c (Fin.ofNat 16 (r + 1)))) (acc c r)
/-- The result of device `c`. -/
def outAt (c : Dev nD) : (cc0_stg1_0 : Ref sig .tc).ty.Contents (Elt F) := acc m ρ c 15

/-! ## Loads and stores of whole buffers -/

theorem zero2 : (![0, 0] : Fin 2 → Nat) = fun _ => 0 := funext fun a => by fin_cases a <;> rfl

/-! ## Copies -/

/-- What a device's remote copy writes into its peer is its part of the peer's gathered rows. -/
theorem landed (c : Dev nD) (r : Fin 31) (fd : Buf (Elt F) ((dstV c).view.loc (sendDev c r : Thread nD τ))) :
    ∀ i ∈ (dstV c).view.set, (dstV c).view.write (Elt F) fd ((srcV c r).view.read (Elt F) (xb m ρ c)) Finset.univ i = gath m ρ (sendDev c r) i := by
  intro i hi
  obtain ⟨x, -, rfl⟩ := Finset.mem_map.mp hi
  have hd : gDev ((dstV c).view.emb x) = c := Fin.ext ((mem_dstV c _).mp hi)
  refine (View.write_emb_of_mem (v := (dstV c).view) fd _ (Finset.mem_univ x)).trans ?_
  rw [View.read_apply]
  show xb m ρ c ((srcV c r).view.emb x) = xb m ρ (gDev ((dstV c).view.emb x)) (gIdx (sendDev c r) ((dstV c).view.emb x))
  rw [hd]
  have hx1 : (x 1).val < 128 := (x 1).isLt
  refine congrArg _ (pair_ext ?_ ?_)
  · show (k0_off6 c (BitVec.ofNat 32 (1 + r.val))) 0 + 1 * (x 0).val = 128 * (sendDev c r).val + (k0_off5 c 0 + 1 * (x 0).val)
    rw [k0_off6_eq, k0_off5_eq, sendDev_val]
    show 128 * ((c.val + 31 - r.val) % 32) + 1 * (x 0).val = 128 * ((c.val + 31 - r.val) % 32) + (0 + 1 * (x 0).val)
    omega
  · show (k0_off6 c (BitVec.ofNat 32 (1 + r.val))) 1 + 1 * (x 1).val = (k0_off5 c 1 + 1 * (x 1).val) % 128
    rw [k0_off6_eq, k0_off5_eq]
    show 0 + 1 * (x 1).val = (128 * c.val + 1 * (x 1).val) % 128
    omega

abbrev ownSrcR (c : Dev nD) : Rect S4096x128 := Rect.unit (s := S4096x128) (k0_off2 c) S128x128.size (k0_off2_inb c)
abbrev ownDstR (c : Dev nD) : Rect S128x4096 := Rect.unit (s := S128x4096) (k0_off3 c) S128x128.size (k0_off3_inb c)

theorem set_ownDst (c : Dev nD) : (xg.access (ownDstR c) : View sig .tc _ _ _).set = (dstV c).view.set := by
  rw [show (xg.access (ownDstR c) : View sig .tc _ _ _).set = (ownDstR c).set from View.set_slice_whole _ _,
    show (dstV c).view.set = _ from View.set_slice_whole _ _]
  have h : k0_off3 c = k0_off5 c := (k0_off3_eq c).trans (k0_off5_eq c).symm
  ext i
  rw [Rect.mem_set_unit, Rect.mem_set_unit, h]
  exact Iff.rfl

/-- A device's own rows, put in their columns of its gathered rows. -/
theorem landed_own (c : Dev nD) (fd : Buf (Elt F) ((c : Thread nD τ).loc cc0_scratch1)) :
    ∀ i ∈ (dstV c).view.set, (xg.access (ownDstR c) : View sig .tc _ _ _).write (Elt F) fd
      (k0_pay3 ((xbf.access (ownSrcR c) : View sig .tc _ _ _).read (Elt F) (xb m ρ c))) Finset.univ i = gath m ρ c i := by
  intro i hi
  have hd : gDev i = c := Fin.ext ((mem_dstV c _).mp hi)
  rw [← set_ownDst] at hi
  obtain ⟨x, -, rfl⟩ := Finset.mem_map.mp hi
  refine (View.write_emb_of_mem (v := (xg.access (ownDstR c) : View sig .tc _ _ _)) fd _ (Finset.mem_univ x)).trans ?_
  have e : k0_pay3 ((xbf.access (ownSrcR c) : View sig .tc _ _ _).read (Elt F) (xb m ρ c)) = (xbf.access (ownSrcR c) : View sig .tc _ _ _).read (Elt F) (xb m ρ c) :=
    shapeCast_self _ _
  rw [e]
  show xb m ρ c ((ownSrcR c).emb x) = xb m ρ (gDev ((ownDstR c).emb x)) (gIdx c ((ownDstR c).emb x))
  rw [show gDev ((ownDstR c).emb x) = c from hd]
  have hx1 : (x 1).val < 128 := (x 1).isLt
  refine congrArg _ (pair_ext ?_ ?_)
  · show (k0_off2 c) 0 + 1 * (x 0).val = 128 * c.val + (k0_off3 c 0 + 1 * (x 0).val)
    rw [k0_off2_eq, k0_off3_eq]
    show 128 * c.val + 1 * (x 0).val = 128 * c.val + (0 + 1 * (x 0).val)
    omega
  · show (k0_off2 c) 1 + 1 * (x 1).val = (k0_off3 c 1 + 1 * (x 1).val) % 128
    rw [k0_off2_eq, k0_off3_eq]
    show 0 + 1 * (x 1).val = (128 * c.val + 1 * (x 1).val) % 128
    omega

/-- A local copy reads the chunk of `w`. -/
theorem read_wRows (c : Dev nD) (r : Fin 16) : (wRows c r).view.read (Elt F) (wAll m c) = wSq m c r := by
  funext x
  rw [View.read_apply]
  show wAll m c ((wRows c r).view.emb x) = wAll m c (wIdx c r x)
  refine congrArg _ (pair_ext ?_ ?_)
  · show (k0_off1 c (BitVec.ofNat 32 r.val)) 0 + 1 * (x 0).val = 256 * ((c.val / 2 + r.val) % 16) + (x 0).val
    rw [k0_off1_eq]
    show 256 * ((c.val / 2 + r.val) % 16) + 1 * (x 0).val = _
    omega
  · show (k0_off1 c (BitVec.ofNat 32 r.val)) 1 + 1 * (x 1).val = (x 1).val
    rw [k0_off1_eq]
    show 0 + 1 * (x 1).val = _
    omega

/-- What block `r` loads from its slot after the chunk has landed there. -/
theorem read_slot (c : Dev nD) (r : Fin 16) (fd : Buf (Elt F) ((wSlot r).view.loc (c : Thread nD τ))) :
    (wbuf.access (slotR r) : View sig .tc _ _ _).read (Elt F) ((wSlot r).view.write (Elt F) fd (wSq m c r) Finset.univ) = wChunk m c r := by
  funext i
  obtain ⟨x, rfl⟩ := (Shape.reshapeEquiv sq_numel).surjective i
  refine (View.read_write_reshape (v := (View.whole cc0_scratch2).slice (slotR r)) sq_numel fd (wSq m c r) x).trans ?_
  unfold wChunk; rw [Equiv.symm_apply_apply]

/-- What block `r` loads from the gathered rows. -/
theorem read_xg (c : Dev nD) (r : Fin 16) : (xg.access (colR c r) : View sig .tc _ _ _).read (Elt F) (gath m ρ c) = aCol m ρ c r := by
  funext i
  rfl

/-- What block `r` loads from the rounded slot it has just stored. -/
theorem read_wbf (c : Dev nD) (r : Fin 16) (f : Buf (Elt F) ((c : Thread nD τ).loc cc0_scratch3)) (v : Vec F S1x256x8192 .bf16) :
    (wbf.access (slotR r) : View sig .tc _ _ _).read (Elt F) ((wbf.access (slotR r) : View sig .tc _ _ _).write (Elt F) f v Finset.univ) = v := by
  exact View.read_write_univ _ _

end Cert.KernelIdeal.Mesh
end
-- ==== Proof.KI.Protocol.lean ====
/-
The protocol of the all-gather, under the rounds library. Every device has a barrier cell, one cell per remote copy it
sends and one per remote copy it receives. A barrier cell has one duty per peer, named by the peer: its signal hands over
the columns of the peer's gathered rows that this device's copy will write. A send cell hands the rows read back to the
sender; a receive cell hands the columns, now holding the sender's rows, to the receiver.
-/
module

public import proofs.«01_k».proof.Proof.KI.Content

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Dev nD)
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UC).trans embR
abbrev EC : UEmb Counters (MT nD τ sig Unit (Elt F) ℕ UU ℕ) := countersEmb

omit [FloatOps F] in
instance ER_lands : (ER : Emb UB 𝕄).LandsIn (upEmb : UEmb _ 𝕄) := by unfold ER embR; infer_instance

abbrev 𝒱₀ : Variants := Variants.none

variable (m : (ℓ : Loc nD τ sig) → Buf (Elt F) ℓ) (ρ : Dev nD → PrngReg)

/-! ## The cells -/

abbrev barCell (c : Dev nD) : GSem nD τ sig := ((c : Thread nD τ), .reg barS)
abbrev sendCell (c : Dev nD) (r : Fin 31) : GSem nD τ sig := ((c : Thread nD τ), .dma (sendS r))
abbrev recvCell (c j : Dev nD) : GSem nD τ sig := ((c : Thread nD τ), .dma (recvMeS j))
abbrev wCell (c : Dev nD) (r : Fin 16) : GSem nD τ sig := ((c : Thread nD τ), .dma (wS r))

/-- The scoped semaphores of the protocol: the send semaphore no copy uses, the others, the receive semaphores; -/
abbrev OK : Type := (Fin 1 ⊕ Fin 31) ⊕ Dev nD
/-- and the barrier's with them; -/
abbrev CK : Type := Fin 1 ⊕ OK
/-- the semaphores of the kernel: those and the two of the local copies. -/
abbrev SK : Type := OK ⊕ Fin 2

def idleS : DmaSem sig := ⟨2, by decide⟩
def okSem : OK → DmaSem sig
  | .inl (.inl _) => idleS
  | .inl (.inr r) => sendS r
  | .inr j => recvMeS j
def csem : CK → SemLoc sig
  | .inl _ => .reg barS
  | .inr k => .dma (okSem k)
def osem : SK → SemLoc sig
  | .inl k => .dma (okSem k)
  | .inr s => .dma (wS ⟨s.val, by omega⟩)
abbrev kcell (ck : Dev nD × CK) : GSem nD τ sig := ((ck.1 : Thread nD τ), csem ck.2)

theorem okSem_inj : Function.Injective okSem := by
  rintro ((a | r) | j) ((a' | r') | j') h <;> have h := congrArg Fin.val h <;> unfold okSem idleS at h <;> dsimp only at h
  · rw [Subsingleton.elim a a']
  · rw [sendS_val] at h; omega
  · rw [recvMeS_val] at h; omega
  · rw [sendS_val] at h; omega
  · rw [sendS_val, sendS_val] at h; rw [show r = r' from Fin.ext (by omega)]
  · rw [sendS_val, recvMeS_val] at h; omega
  · rw [recvMeS_val] at h; omega
  · rw [sendS_val, recvMeS_val] at h; omega
  · rw [recvMeS_val, recvMeS_val] at h; rw [show j = j' from Fin.ext (by omega)]

theorem okSem_val (k : OK) : 2 ≤ (okSem k).val ∧ (okSem k).val < 66 := by
  rcases k with (a | r) | j
  · exact ⟨le_refl 2, (by decide : 2 < 66)⟩
  · show 2 ≤ (sendS r).val ∧ (sendS r).val < 66
    rw [sendS_val]; omega
  · show 2 ≤ (recvMeS j).val ∧ (recvMeS j).val < 66
    rw [recvMeS_val]; have := dev_lt j; omega

theorem csem_inj : Function.Injective csem := by
  rintro (a | k) (a' | k') h
  · rw [Subsingleton.elim a a']
  · cases h
  · cases h
  · exact congrArg Sum.inr (okSem_inj (SemLoc.dma.inj h))

theorem kcell_inj : Function.Injective kcell := by
  rintro ⟨c, k⟩ ⟨c', k'⟩ h
  have h1 : c = c' := congrArg (fun g : GSem nD τ sig => g.1.1) h
  exact Prod.ext h1 (csem_inj (congrArg Prod.snd h))

abbrev N : ℕ := (anyV : Memref sig .tc .vmem S128x128 .bf16).view.dmaCredit
theorem N_pos : 0 < N := View.dmaCredit_pos _ (by decide)
abbrev NW : ℕ := (wSlot 0).view.dmaCredit
theorem NW_pos : 0 < NW := View.dmaCredit_pos _ (by decide)

/-! ## What changes hands -/

/-- The columns of `p`'s gathered rows that device `c` writes. -/
def colPts (p c : Dev nD) (f : Buf (Elt F) ((p : Thread nD τ).loc cc0_scratch1)) : sProp 𝕄 :=
  (dstV c).view.loc (p : Thread nD τ) ↦[(dstV c).view.set]{fullShare} f
/-- The rows of its rounded block that device `c` sends in its copy `r`. -/
def srcPts (c : Dev nD) (r : Fin 31) : sProp 𝕄 :=
  (srcV c r).view.loc (c : Thread nD τ) ↦[(srcV c r).view.set]{fullShare} xb m ρ c

/-- What `d`'s signal hands to `c`. -/
def barPay (c d : Dev nD) : sProp 𝕄 := iprop(∃ f, colPts d c f)
/-- The rows of device `j`, landed on device `c`. -/
def recvPay (c j : Dev nD) : sProp 𝕄 := colPts c j (gath m ρ c)

omit [FloatOps F] in
instance colPts_storable (p c : Dev nD) (f) : BI.Storable (upEmb : UEmb _ 𝕄) (colPts (F := F) p c f) := by unfold colPts; infer_instance
instance srcPts_storable (c : Dev nD) (r : Fin 31) : BI.Storable (upEmb : UEmb _ 𝕄) (srcPts (F := F) m ρ c r) := by unfold srcPts; infer_instance
omit [FloatOps F] in
instance barPay_storable (c d : Dev nD) : BI.Storable (upEmb : UEmb _ 𝕄) (barPay (F := F) c d) := by unfold barPay; infer_instance
instance recvPay_storable (c j : Dev nD) : BI.Storable (upEmb : UEmb _ 𝕄) (recvPay (F := F) m ρ c j) := by unfold recvPay; infer_instance

/-! ## The schedule -/

def dutiesOf (g : GSem nD τ sig) : Finset (Dev nD) := match g.2 with
  | .reg s => if s = barS then Finset.univ.erase g.1.1 else ∅
  | .dma q => if 3 ≤ q.val ∧ q.val < 66 ∧ q.val ≠ 34 + g.1.1.val then {g.1.1} else ∅
def amountOfSem (s : SemLoc sig) : ℕ := match s with
  | .reg _ => 1
  | .dma _ => N
def payOf (g : GSem nD τ sig) (d : Dev nD) : sProp 𝕄 := match g.2 with
  | .reg _ => barPay g.1.1 d
  | .dma q => if q.val < 34 then srcPts m ρ g.1.1 ⟨(q.val - 3) % 31, Nat.mod_lt _ (by decide)⟩
      else recvPay m ρ g.1.1 ⟨(q.val - 34) % 32, Nat.mod_lt _ (by decide)⟩

def Rd : Rounds.Schedule (GSem nD τ sig) (Dev nD) 𝕄 where
  duties g r := if r = 0 ∧ g.1.2 = .tc then dutiesOf g else ∅
  unitless _ := False
  amount g _ _ := amountOfSem g.2
  payload g _ d := payOf m ρ g d
  amount_pos g _ _ _ := by
    rcases g with ⟨t, s | q⟩
    · exact Nat.one_pos
    · exact N_pos

instance Rd_payload_storable (g : GSem nD τ sig) (r : ℕ) (d : Dev nD) :
    BI.Storable (upEmb : UEmb _ 𝕄) ((Rd (F := F) m ρ).payload g r d) := by
  show BI.Storable upEmb (payOf m ρ g d)
  unfold payOf
  (repeat' split) <;> infer_instance

section Sched
variable (c j : Dev nD) (r : Fin 31)

theorem duties_tc (s : SemLoc sig) : (Rd (F := F) m ρ).duties ((c : Thread nD τ), s) 0 = dutiesOf ((c : Thread nD τ), s) := by
  dsimp only [Rd]; exact if_pos ⟨rfl, rfl⟩
theorem duties_bar : (Rd (F := F) m ρ).duties (barCell c) 0 = Finset.univ.erase c := by
  rw [duties_tc]
  show (if barS = barS then Finset.univ.erase c else ∅) = _
  rw [if_pos rfl]
theorem duties_send : (Rd (F := F) m ρ).duties (sendCell c r) 0 = {c} := by
  rw [duties_tc]
  refine if_pos ?_
  show 3 ≤ (sendS r).val ∧ (sendS r).val < 66 ∧ (sendS r).val ≠ 34 + c.val
  rw [sendS_val]; omega
theorem duties_recv (h : j ≠ c) : (Rd (F := F) m ρ).duties (recvCell c j) 0 = {c} := by
  rw [duties_tc]
  refine if_pos ?_
  show 3 ≤ (recvMeS j).val ∧ (recvMeS j).val < 66 ∧ (recvMeS j).val ≠ 34 + c.val
  rw [recvMeS_val]
  have := dev_lt j; have : j.val ≠ c.val := fun e => h (Fin.ext e)
  omega
theorem duties_later (g : GSem nD τ sig) : ∀ r, 1 ≤ r → (Rd (F := F) m ρ).duties g r = ∅ :=
  fun r hr => if_neg fun h => by omega
/-- The send cell no copy uses and the receive cell of the device's own rows have no duties at all. -/
theorem duties_idle : ∀ r, 0 ≤ r → (Rd (F := F) m ρ).duties ((c : Thread nD τ), .dma idleS) r = ∅ := fun r _ => by
  show (if r = 0 ∧ _ then dutiesOf ((c : Thread nD τ), .dma idleS) else ∅) = _
  split
  · show (if 3 ≤ idleS.val ∧ idleS.val < 66 ∧ idleS.val ≠ 34 + c.val then {c} else ∅) = _
    exact if_neg fun h => absurd h.1 (by decide)
  · rfl
theorem duties_own : ∀ r, 0 ≤ r → (Rd (F := F) m ρ).duties (recvCell c c) r = ∅ := fun r _ => by
  show (if r = 0 ∧ _ then dutiesOf (recvCell c c) else ∅) = _
  split
  · show (if 3 ≤ (recvMeS c).val ∧ (recvMeS c).val < 66 ∧ (recvMeS c).val ≠ 34 + c.val then {c} else ∅) = _
    exact if_neg fun h => h.2.2 (recvMeS_val c)
  · rfl

theorem expect_bar : (Rd (F := F) m ρ).expect (barCell c) 0 = 31 := by
  unfold Schedule.expect Schedule.amountOf
  rw [duties_bar]
  show (∑ d ∈ Finset.univ.erase c, 1) = 31
  rw [Finset.sum_const, Finset.card_erase_of_mem (Finset.mem_univ c), Finset.card_univ, Fintype.card_fin, smul_eq_mul]
  rfl
theorem expect_send : (Rd (F := F) m ρ).expect (sendCell c r) 0 = N := by
  unfold Schedule.expect Schedule.amountOf; rw [duties_send, Finset.sum_singleton]; rfl
theorem expect_recv (h : j ≠ c) : (Rd (F := F) m ρ).expect (recvCell c j) 0 = N := by
  unfold Schedule.expect Schedule.amountOf; rw [duties_recv m ρ c j h, Finset.sum_singleton]; rfl

theorem payload_bar (d : Dev nD) : (Rd (F := F) m ρ).payload (barCell c) 0 d = barPay c d := rfl
theorem payload_send (d : Dev nD) : (Rd (F := F) m ρ).payload (sendCell c r) 0 d = srcPts m ρ c r := by
  show (if (sendS r).val < 34 then _ else _) = _
  rw [if_pos (by rw [sendS_val]; omega)]
  exact congrArg _ (Fin.ext (by show ((sendS r).val - 3) % 31 = r.val; rw [sendS_val]; omega))
theorem payload_recv (d : Dev nD) : (Rd (F := F) m ρ).payload (recvCell c j) 0 d = recvPay m ρ c j := by
  show (if (recvMeS j).val < 34 then _ else _) = _
  rw [if_neg (by rw [recvMeS_val]; omega)]
  exact congrArg _ (Fin.ext (by show ((recvMeS j).val - 34) % 32 = j.val; rw [recvMeS_val]; have := dev_lt j; omega))

theorem rest_bar : bigSep ((Rd (F := F) m ρ).duties (barCell c) 0 \ ∅) (fun d => (Rd (F := F) m ρ).payload (barCell c) 0 d)
    = bigSep (Finset.univ.erase c) (fun d => barPay c d) := by
  rw [Finset.sdiff_empty, duties_bar]; rfl
theorem rest_send : bigSep ((Rd (F := F) m ρ).duties (sendCell c r) 0 \ ∅) (fun d => (Rd (F := F) m ρ).payload (sendCell c r) 0 d) = srcPts m ρ c r := by
  rw [Finset.sdiff_empty, duties_send, bigSep_singleton, payload_send]
theorem rest_recv (h : j ≠ c) : bigSep ((Rd (F := F) m ρ).duties (recvCell c j) 0 \ ∅) (fun d => (Rd (F := F) m ρ).payload (recvCell c j) 0 d) = recvPay m ρ c j := by
  rw [Finset.sdiff_empty, duties_recv m ρ c j h, bigSep_singleton, payload_recv]

end Sched

/-! ## What each device owes at launch; the levels -/

/-- The credits of the remote copies a device is to make, -/
def OW (c : Dev nD) : CellTallies nD τ sig Unit := ∑ r : Fin 31, tallyAt (recvCell (sendDev c r) c) () N
/-- and with them its signals. -/
def O₀ (c : Dev nD) : CellTallies nD τ sig Unit := OW c + ∑ r : Fin 31, tallyAt (barCell (sigDev c r)) () 1

def L (g : GSem nD τ sig) : Finset Unit := if g.1.2 = .tc then {()} else ∅
/-- Barrier cells at 1, receive cells at 2, everything else at 0. -/
def lv (g : GSem nD τ sig) (_ : Unit) : ℕ := match g.2 with
  | .reg s => if s = barS then 1 else 0
  | .dma q => if 34 ≤ q.val ∧ q.val < 66 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := show (if barS = barS then 1 else 0) = 1 from if_pos rfl
theorem lv_recv (c j : Dev nD) : lv (recvCell c j) () = 2 := if_pos (by rw [recvMeS_val]; have := dev_lt j; omega)

theorem OW_pos {c : Dev nD} {g : GSem nD τ sig} {u : Unit} (h : 0 < OW c g u) : ∃ r, g = recvCell (sendDev c r) c := by
  unfold OW at h
  rw [Finset.sum_apply, Finsupp.finset_sum_apply] at h
  obtain ⟨r, -, hr⟩ := Finset.exists_ne_zero_of_sum_ne_zero (Nat.pos_iff_ne_zero.mp h)
  refine ⟨r, ?_⟩
  by_contra hn
  rw [tallyAt_apply, if_neg fun h' => hn h'.1] at hr
  exact hr rfl
theorem O₀_pos {c : Dev nD} {g : GSem nD τ sig} {u : Unit} (h : 0 < O₀ c g u) :
    (∃ r, g = recvCell (sendDev c r) c) ∨ ∃ r, g = barCell (sigDev c r) := by
  unfold O₀ at h
  rw [Pi.add_apply, Finsupp.add_apply] at h
  by_cases h1 : 0 < OW c g u
  · exact .inl (OW_pos h1)
  refine .inr ?_
  have h : 0 < (∑ r : Fin 31, tallyAt (barCell (sigDev c r)) () 1 : CellTallies nD τ sig Unit) g u := by omega
  rw [Finset.sum_apply, Finsupp.finset_sum_apply] at h
  obtain ⟨r, -, hr⟩ := Finset.exists_ne_zero_of_sum_ne_zero (Nat.pos_iff_ne_zero.mp h)
  refine ⟨r, ?_⟩
  by_contra hn
  rw [tallyAt_apply, if_neg fun h' => hn h'.1] at hr
  exact hr rfl

theorem O₀_lv {c : Dev nD} {g : GSem nD τ sig} {u : Unit} (h : 0 < O₀ c g u) : u ∈ L g ∧ 0 < lv g u := by
  rcases O₀_pos h with ⟨r, rfl⟩ | ⟨r, rfl⟩
  · exact ⟨by rw [L_tc]; exact Finset.mem_singleton_self _, by rw [lv_recv]; decide⟩
  · exact ⟨by rw [L_tc]; exact Finset.mem_singleton_self _, by rw [lv_bar]; decide⟩

omit [FloatOps F] in
theorem mayWait_stage (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (O₀_lv hg).1)
      (fun p hp => by rw [Finset.mem_singleton.mp hp]; exact le_of_eq (if_neg fun h => by omega))
      (fun g u hg => (O₀_lv hg).2)
  · rw [MayWait_zero]; iintro -; iempintro

omit [FloatOps F] in
/-- At its barrier wait a device owes receive credits only: receive cells, above its barrier cell. -/
theorem mayWait_bar (c : Dev nD) : (levAts L lv : sProp 𝕄) ⊢ MayWait (c : Thread nD τ) (.reg barS) () (OW c) :=
  MayOwe.of_cut (L := L) (lev := lv) 1 (fun p hp => by rw [Finset.mem_singleton.mp hp, L_tc]; exact Finset.mem_singleton_self _)
    (fun g u hg => by obtain ⟨r, rfl⟩ := OW_pos hg; rw [L_tc]; exact Finset.mem_singleton_self _)
    (fun p hp => by rw [Finset.mem_singleton.mp hp]; exact le_of_eq (lv_bar c))
    (fun g u hg => by obtain ⟨r, rfl⟩ := OW_pos hg; rw [lv_recv]; decide)

end Cert.KernelIdeal.Mesh
end
-- ==== Proof.KI.Steps.lean ====
/-
The steps of the three runs of 31: a signal, a remote copy, a wait for a remote copy sent; and a run of 31 from its step.
-/
module

public import proofs.«01_k».proof.Proof.KI.Protocol

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

/-- A program of device `c` runs to `Q`. -/
abbrev wpc (c : Dev nD) (p : PR F PUnit) (Q : PUnit → sProp 𝕄) : sProp 𝕄 :=
  wp frame (wpE (defs₀ (F := F)) 𝒱₀ (c : Thread nD τ) none) Set.univ p Q

/-- What device `c` owes, whatever it has waited on. -/
def owing (c : Dev nD) (O : CellTallies nD τ sig Unit) : sProp 𝕄 := iprop(∃ W : Waits sig Unit, owes (c : Thread nD τ) O W)

/-- The records of every cell: its invariant, under the name the launch gave it, and that its round 0 is reached. -/
def recs (K : Dev nD × CK → ℕ) : sProp 𝕄 :=
  bigSep Finset.univ fun ck : Dev nD × CK => iprop(cellInv ER (Rd m ρ) (K ck) (kcell ck) ∗ reached ER (kcell ck) 0)

instance recs_persistent (K : Dev nD × CK → ℕ) : BI.Persistent (recs (F := F) m ρ K) := by unfold recs; infer_instance

variable (K : Dev nD × CK → ℕ)

theorem recs_at (ck : Dev nD × CK) :
    recs (F := F) m ρ K ⊢ iprop(cellInv ER (Rd m ρ) (K ck) (kcell ck) ∗ reached ER (kcell ck) 0) :=
  bigSep_elim (Finset.mem_univ ck)

abbrev kBar (c : Dev nD) : Dev nD × CK := (c, .inl 0)
abbrev kSend (c : Dev nD) (r : Fin 31) : Dev nD × CK := (c, .inr (.inl (.inr r)))
abbrev kIdle (c : Dev nD) : Dev nD × CK := (c, .inr (.inl (.inl 0)))
abbrev kRecv (c j : Dev nD) : Dev nD × CK := (c, .inr (.inr j))

/-- A run of 31 from its step. -/
theorem run31_wp (c : Dev nD) (f : Fin 31 → PR F PUnit) (P : sProp 𝕄) [BI.Persistent P] (Rest Done : Fin 31 → sProp 𝕄)
    (T : Fin 31 → CellTallies nD τ sig Unit) (Oe : CellTallies nD τ sig Unit) (k : PR F PUnit) (Q : PUnit → sProp 𝕄)
    (hstep : ∀ (r : Fin 31) (k' : PUnit → PR F PUnit),
      iprop(P ∗ Rest r ∗ owing c ((Oe + ∑ r' ∈ finFrom 31 (r.val + 1), T r') + T r))
        ⊢ iprop(((Done r ∗ owing c (Oe + ∑ r' ∈ finFrom 31 (r.val + 1), T r')) -∗ wpc c (k' ⟨⟩) Q) -∗ wpc c (f r >>= k') Q)) :
    ∀ (n : ℕ) (h : n ≤ 31),
      iprop(P ∗ bigSep (finFrom 31 (31 - n)) Rest ∗ bigSep (finUpTo 31 (31 - n)) Done ∗ owing c (Oe + ∑ r ∈ finFrom 31 (31 - n), T r))
        ⊢ iprop(((bigSep Finset.univ Done ∗ owing c Oe) -∗ wpc c k Q) -∗ wpc c (run31 f k n h) Q)
  | 0, h => by
    rw [show (31 - 0) = 31 from rfl, bigSep_finUpTo_self, sum_finFrom_self, add_zero]
    iintro ⟨-, -, Hd, HO⟩ Hk
    unfold run31
    iapply Hk
    isplitl [Hd] <;> iassumption
  | n + 1, h => by
    have hk : 31 - (n + 1) < 31 := by omega
    have e : 31 - (n + 1) + 1 = 31 - n := by omega
    have hs := hstep ⟨31 - (n + 1), hk⟩ (fun _ => run31 f k n (by omega))
    have ih := run31_wp c f P Rest Done T Oe k Q hstep n (by omega)
    dsimp only at hs
    rw [bigSep_finFrom_succ hk, sum_finFrom_succ hk, ← add_assoc]
    rw [e] at hs ⊢
    iintro ⟨#HP, ⟨Hr, Hrs⟩, Hd, HO⟩ Hk
    unfold run31
    iapply hs $$ [Hr HO]
    · isplitr; · iexact HP
      isplitl [Hr] <;> iassumption
    iintro ⟨Hd1, HO⟩
    iapply ih $$ [Hrs Hd Hd1 HO]
    · isplitr; · iexact HP
      isplitl [Hrs]; · iexact Hrs
      isplitl [Hd Hd1]
      · rw [← e, bigSep_finUpTo_succ hk]
        isplitl [Hd1] <;> iassumption
      iexact HO
    iexact Hk

/-- A signal: to the peer, with the columns of the signaller that the peer's copy writes. -/
theorem sig_step (c : Dev nD) (r : Fin 31) (O : CellTallies nD τ sig Unit) (k : PUnit → PR F PUnit) (Q : PUnit → sProp 𝕄) :
    iprop(recs m ρ K ∗ (dutyTok ER (barCell (sigDev c r)) 0 c ∗ barPay (sigDev c r) c) ∗ owing c (O + tallyAt (barCell (sigDev c r)) () 1))
      ⊢ iprop(((emp ∗ owing c O) -∗ wpc c (k ⟨⟩) Q) -∗ wpc c (sigStep c r >>= k) Q) := by
  iintro ⟨#HR, ⟨Ht, Hp⟩, HO⟩ Hk
  unfold owing
  icases HO with ⟨%W, HO⟩
  ihave #Hc := (recs_at m ρ K (kBar (sigDev c r))) $$ HR
  icases Hc with ⟨#HI, #Hre⟩
  simp only [semSignalWord, Prog.lift, Prog.bind_op, Prog.bind_ret, Prog.pure_eq_ret]
  iapply (Rounds.wp_signal 𝒱₀ ER (Rd m ρ) (c : Thread nD τ) none (dst := (sigDev c r : Thread nD τ)) (κ := K (kBar (sigDev c r)))
      (d := c) (by rw [duties_bar]; exact Finset.mem_erase.mpr ⟨(sigDev_ne c r).symm, Finset.mem_univ _⟩) (by exact (by decide : 1 = (1#32).toNat)) () O rfl) $$ [HO Ht Hp]
  · isplitr; · iexact HI
    isplitl [HO]; · iexact HO
    isplitl [Ht]; · iexact Ht
    isplitl [Hp]; · rw [payload_bar]; iexact Hp
    iexact Hre
  iintro HO
  iapply Hk
  isplitr; · iempintro
  iexists W; iexact HO

/-- A remote copy: the rows go out, and land in the peer's columns. -/
theorem send_step (c : Dev nD) (r : Fin 31) (O : CellTallies nD τ sig Unit) (k : PUnit → PR F PUnit) (Q : PUnit → sProp 𝕄) :
    iprop(recs m ρ K ∗ (srcPts m ρ c r ∗ barPay c (sendDev c r) ∗ dutyTok ER (sendCell c r) 0 c ∗ dutyTok ER (recvCell (sendDev c r) c) 0 (sendDev c r))
        ∗ owing c (O + tallyAt (recvCell (sendDev c r) c) () N))
      ⊢ iprop(((cred (tallyAt (sendCell c r) () N) ∗ owing c O) -∗ wpc c (k ⟨⟩) Q) -∗ wpc c (sendStep c r >>= k) Q) := by
  iintro ⟨#HR, ⟨Hs, Hb, Ht₁, Ht₂⟩, HO⟩ Hk
  unfold owing barPay
  icases HO with ⟨%W, HO⟩
  icases Hb with ⟨%fd, Hb⟩
  ihave #Hc := (recs_at m ρ K (kSend c r)) $$ HR
  icases Hc with ⟨#HI₁, #Hre₁⟩
  ihave #Hc := (recs_at m ρ K (kRecv (sendDev c r) c)) $$ HR
  icases Hc with ⟨#HI₂, #Hre₂⟩
  simp only [Prog.lift, Prog.bind_op, Prog.bind_ret, Prog.pure_eq_ret]
  unfold srcPts colPts
  iapply (Rounds.wp_send_pointsTo 𝒱₀ ER (Rd m ρ) (c : Thread nD τ) none (κ₁ := K (kSend c r)) (κ₂ := K (kRecv (sendDev c r) c))
    (r₁ := 0) (r₂ := 0) (d₁ := c) (d₂ := sendDev c r) (fd := fd)
    (by rw [duties_send]; exact Finset.mem_singleton_self _) (by rw [duties_recv m ρ _ _ (sendDev_ne c r).symm]; exact Finset.mem_singleton_self _)
    () () N rfl rfl rfl O rfl (W := W)
    (by rw [payload_send]; exact BI.Entails.refl _)
    (by rw [payload_recv]; unfold recvPay colPts; exact Entails.of_eq (pointsTo_congr (landed m ρ c r fd)))) $$ [Hs Hb HO Ht₁ Ht₂]
  · isplitr; · iexact HI₁
    isplitr; · iexact HI₂
    isplitl [Hs]; · iexact Hs
    isplitl [Hb]; · iexact Hb
    isplitl [HO]; · iexact HO
    isplitl [Ht₁]; · iexact Ht₁
    isplitr; · iexact Hre₁
    isplitl [Ht₂]; · iexact Ht₂
    iexact Hre₂
  iintro ⟨Hcr, HO⟩
  iapply Hk
  isplitl [Hcr]; · iexact Hcr
  iexists W; iexact HO

/-- A wait for a copy sent: its rows are back, and its semaphore is at zero again. -/
theorem waitSend_step (c : Dev nD) (r : Fin 31) (k : PUnit → PR F PUnit) (Q : PUnit → sProp 𝕄) :
    iprop(recs m ρ K ∗ (cred (tallyAt (sendCell c r) () N) ∗ atPos ER (sendCell c r) 0 ∅ 0) ∗ owing c 0)
      ⊢ iprop((((srcPts m ρ c r ∗ semVal (sendCell c r) 0) ∗ owing c 0) -∗ wpc c (k ⟨⟩) Q) -∗ wpc c (waitSend c r >>= k) Q) := by
  iintro ⟨#HR, ⟨Hcr, Hat⟩, HO⟩ Hk
  unfold owing
  icases HO with ⟨%W, HO⟩
  ihave #Hc := (recs_at m ρ K (kSend c r)) $$ HR
  icases Hc with ⟨#HI, -⟩
  simp only [Prog.lift, Prog.bind_op, Prog.bind_ret, Prog.pure_eq_ret]
  iapply (Rounds.wp_wait_rest_token 𝒱₀ ER (Rd m ρ) (c : Thread nD τ) none (κ := K (kSend c r))
      (wpE_waitDma2_eq 𝒱₀ (c : Thread nD τ) none Set.univ) (Set.mem_univ _) () (O := 0) (W := W) (R := 0) (m := 0) (T := ∅)
      (show 0 + (srcV c r).view.dmaCredit = (Rd m ρ).expect (sendCell c r) 0 from (Nat.zero_add _).trans (expect_send m ρ c r).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  imod (Rounds.cell_close ER (Rd m ρ) (Set.mem_univ (K (kSend c r))) (fun h => h) (R := 0 + 1) (duties_later m ρ (sendCell c r))) $$ [Hat] with Hz
  · isplitr; · iexact HI
    iexact Hat
  iapply Hk
  isplitl [Hpay Hz]
  · isplitl [Hpay]
    · iapply (Entails.of_eq (rest_send m ρ c r)); iexact Hpay
    iexact Hz
  iexists _; iexact HO

/-- A wait for a copy to land: the peer's rows are there, and the semaphore is at zero again. -/
theorem waitRecv_step (c j : Dev nD) (hj : j ≠ c) (q : DmaSem sig) (hq : q = recvMeS j) {s : Shape} {e : EltTy} {sp sp' : Space}
    {src : Memref sig .tc sp' s e} {dst : Memref sig .tc sp s e} {hsrc : src.view.WordExact} {hdst : dst.view.WordExact}
    (hN : dst.view.dmaCredit = N) (k : PUnit → PR F PUnit) (Q : PUnit → sProp 𝕄) :
    iprop(recs m ρ K ∗ (cred (tallyAt (recvCell c j) () N) ∗ atPos ER (recvCell c j) 0 ∅ 0) ∗ owing c 0)
      ⊢ iprop((((recvPay m ρ c j ∗ semVal (recvCell c j) 0) ∗ owing c 0) -∗ wpc c (k ⟨⟩) Q)
          -∗ wpc c (.op (.waitDma2 q src dst hsrc hdst) k) Q) := by
  subst hq
  iintro ⟨#HR, ⟨Hcr, Hat⟩, HO⟩ Hk
  unfold owing
  icases HO with ⟨%W, HO⟩
  ihave #Hc := (recs_at m ρ K (kRecv c j)) $$ HR
  icases Hc with ⟨#HI, -⟩
  iapply (Rounds.wp_wait_rest_token 𝒱₀ ER (Rd m ρ) (c : Thread nD τ) none (κ := K (kRecv c j))
      (wpE_waitDma2_eq 𝒱₀ (c : Thread nD τ) none Set.univ) (Set.mem_univ _) () (O := 0) (W := W) (R := 0) (m := 0) (T := ∅)
      (show 0 + dst.view.dmaCredit = (Rd m ρ).expect (recvCell c j) 0 from (Nat.zero_add _).trans (hN.trans (expect_recv m ρ c j hj).symm))) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  imod (Rounds.cell_close ER (Rd m ρ) (Set.mem_univ (K (kRecv c j))) (fun h => h) (R := 0 + 1) (duties_later m ρ (recvCell c j))) $$ [Hat] with Hz
  · isplitr; · iexact HI
    iexact Hat
  iapply Hk
  isplitl [Hpay Hz]
  · isplitl [Hpay]
    · iapply (Entails.of_eq (rest_recv m ρ c j hj)); iexact Hpay
    iexact Hz
  iexists _; iexact HO

/-- The barrier's wait: each peer's columns for this device's copies. -/
theorem waitBar_step (c : Dev nD) (k : PUnit → PR F PUnit) (Q : PUnit → sProp 𝕄) :
    iprop(recs m ρ K ∗ levAts L lv ∗ (cred (tallyAt (barCell c) () 31) ∗ atPos ER (barCell c) 0 ∅ 0) ∗ owing c (OW c))
      ⊢ iprop((((bigSep Finset.univ fun r => barPay c (sendDev c r)) ∗ semVal (barCell c) 0) ∗ owing c (OW c) -∗ wpc c (k ⟨⟩) Q)
          -∗ wpc c (semWaitWord barS 31#32 >>= k) Q) := by
  iintro ⟨#HR, #Hlev, ⟨Hcr, Hat⟩, HO⟩ Hk
  unfold owing
  icases HO with ⟨%W, HO⟩
  ihave #Hc := (recs_at m ρ K (kBar c)) $$ HR
  icases Hc with ⟨#HI, -⟩
  simp only [semWaitWord, Prog.lift, Prog.bind_op, Prog.bind_ret, Prog.pure_eq_ret]
  iapply (Rounds.wp_wait_rest_token 𝒱₀ ER (Rd m ρ) (c : Thread nD τ) none (κ := K (kBar c))
      (wpE_semWait_eq 𝒱₀ (c : Thread nD τ) none Set.univ) (Set.mem_univ _) () (O := OW c) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  imod (Rounds.cell_close ER (Rd m ρ) (Set.mem_univ (K (kBar c))) (fun h => h) (R := 0 + 1) (duties_later m ρ (barCell c))) $$ [Hat] with Hz
  · isplitr; · iexact HI
    iexact Hat
  iapply Hk
  isplitl [Hpay Hz]
  · isplitl [Hpay]
    · iapply (Entails.of_eq ((rest_bar m ρ c).trans (by
        rw [← image_sendDev c]; exact SparseCore.bigSep_image_of_injOn (sendDev_inj c).injOn _))); iexact Hpay
    iexact Hz
  iexists _; iexact HO

end Cert.KernelIdeal.Mesh
end
-- ==== Proof.KI.Blocks.lean ====
/-
One block of the product: the waits for the two peers' columns, the local copy of the rows of `w` two blocks ahead, the
cast, and the product added to the output block.
-/
module

public import proofs.«01_k».proof.Proof.KI.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocal)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## The resources of a block -/

/-- The rows of `w` that block `r` copies. -/
def wPart (c : Dev nD) (r : Fin 16) : sProp 𝕄 :=
  (wRows c r).view.loc (c : Thread nD τ) ↦[(wRows c r).view.set]{fullShare} wAll m c
/-- The slot of block `r`, after the copy wrote it. -/
def slotFull (c : Dev nD) (r : Fin 16) (fd : Buf (Elt F) ((c : Thread nD τ).loc cc0_scratch2)) : sProp 𝕄 :=
  (wSlot r).view.loc (c : Thread nD τ) ↦[(wSlot r).view.set]{fullShare} (wSlot r).view.write (Elt F) fd (wSq m c r) Finset.univ
/-- The slot of block `r`, its semaphore at zero. -/
def idle (c : Dev nD) (r : Fin 16) : sProp 𝕄 :=
  iprop((∃ f : Buf (Elt F) ((c : Thread nD τ).loc cc0_scratch2), (c : Thread nD τ).loc cc0_scratch2 ↦[(wSlot r).view.set]{fullShare} f)
    ∗ semVal (wCell c r) 0)
/-- The copy of block `r`'s rows, in flight. -/
def flying (c : Dev nD) (r : Fin 16) : sProp 𝕄 :=
  iprop(∃ fd, Flight EC (c : Thread nD τ) (.dma (wS r)) () NW iprop(slotFull m c r fd ∗ wPart m c r))
/-- The rounded slot of block `r` holds its rounded rows of `w`. -/
def wbfHas (c : Dev nD) (r : Fin 16) : sProp 𝕄 :=
  iprop(∃ f : Buf (Elt F) ((c : Thread nD τ).loc cc0_scratch3),
    ⌜(wbf.access (slotR r) : View sig .tc _ _ _).read (Elt F) f = castW (wChunk m c r)⌝ ∗ ((c : Thread nD τ).loc cc0_scratch3 ↦{fullShare} f))
/-- The output block, at `v`. -/
def outHas (c : Dev nD) (v : Vec F S128x8192 .f32) : sProp 𝕄 :=
  ((c : Thread nD τ).loc cc0_stg1_0 ↦{fullShare} (v : Buf (Elt F) ((c : Thread nD τ).loc cc0_stg1_0)) : sProp 𝕄)

/-- Before and after a wait for peer `j`'s columns: the device's own are there already. -/
def preJ (c j : Dev nD) : sProp 𝕄 :=
  if j = c then iprop(recvPay m ρ c j ∗ semVal (recvCell c j) 0)
  else iprop(cred (tallyAt (recvCell c j) () N) ∗ atPos ER (recvCell c j) 0 ∅ 0)
def postJ (c j : Dev nD) : sProp 𝕄 := iprop(recvPay m ρ c j ∗ semVal (recvCell c j) 0)

omit [FloatOps F] in
theorem idle_congr (c : Dev nD) {r r' : Fin 16} (h : r.val % 2 = r'.val % 2) : idle (F := F) c r = idle c r' := by
  unfold idle wCell; rw [wS_congr h, slot_congr h]

/-! ## The steps -/

theorem got_credit (c : Dev nD) (r : Fin 16) (s : Fin 2) : (gotV c r s).view.dmaCredit = N := rfl

/-- A wait for a peer's columns, if the columns are not the device's own. -/
theorem waitRecv_wp (c : Dev nD) (r : Fin 16) (s : Fin 2) (k : PUnit → PR F PUnit) (Q : PUnit → sProp 𝕄) :
    iprop(recs m ρ K ∗ preJ m ρ c (peer c r s) ∗ owing c 0)
      ⊢ iprop(((postJ m ρ c (peer c r s) ∗ owing c 0) -∗ wpc c (k ⟨⟩) Q) -∗ wpc c (waitRecv c r s >>= k) Q) := by
  by_cases h : condW c (BitVec.ofNat 32 r.val) (BitVec.ofNat 32 s.val) = 1#1
  · have hj := (condW_iff c r s).mp h
    unfold waitRecv preJ postJ
    rw [dif_pos h, if_neg hj]
    simp only [Prog.lift, Prog.bind_op, Prog.bind_ret, Prog.pure_eq_ret]
    exact waitRecv_step m ρ K c (peer c r s) hj (recvS c r s) (recvS_eq c r s) (src := anyV) (dst := gotV c r s) (got_credit c r s) k Q
  · have hj : peer c r s = c := by by_contra hn; exact h ((condW_iff c r s).mpr hn)
    unfold waitRecv preJ postJ
    rw [dif_neg h, if_pos hj]
    simp only [Prog.bind_ret, Prog.pure_eq_ret]
    iintro ⟨-, Hp, HO⟩ Hk
    iapply Hk
    isplitl [Hp] <;> iassumption

/-- The copy of a block's rows of `w` into its slot. -/
theorem copyW_wp (c : Dev nD) (r : Fin 16) (k : PUnit → PR F PUnit) (Q : PUnit → sProp 𝕄) :
    iprop(idle c r ∗ wPart m c r) ⊢ iprop((flying m c r -∗ wpc c (k ⟨⟩) Q) -∗ wpc c (copyW c r >>= k) Q) := by
  unfold idle
  iintro ⟨⟨⟨%fd, Hs⟩, Hv⟩, Hw⟩ Hk
  simp only [Prog.lift, Prog.bind_op, Prog.bind_ret, Prog.pure_eq_ret]
  unfold wPart
  iapply (wp_dmaLocal EC 𝒱₀ (c : Thread nD τ) none (fs := wAll m c) (fd := fd) (q := fullShare) () NW rfl NW_pos (Finset.Subset.refl _)) $$ [Hs Hv Hw]
  · isplitl [Hw]; · iexact Hw
    isplitl [Hs]; · iexact Hs
    iexact Hv
  iintro Hf
  iapply Hk
  unfold flying
  iexists fd
  unfold slotFull wPart
  rw [← read_wRows]
  iexact Hf

theorem slot_sub (r : Fin 16) : (wbuf.access (slotR r) : View sig .tc _ _ _).set ⊆ (wSlot r).view.set := by
  rw [set_wSlot, show (wbuf.access (slotR r) : View sig .tc _ _ _).set = (slotR r).set from View.set_slice_whole _ _]

/-- The first half of a block. -/
theorem blockIn_wp (c : Dev nD) (r : Fin 16) (k : PR F PUnit) (Q : PUnit → sProp 𝕄) :
    iprop(recs m ρ K ∗ (preJ m ρ c (peer c r 0) ∗ preJ m ρ c (peer c r 1)) ∗ flying m c r
        ∗ (∃ f : Buf (Elt F) ((c : Thread nD τ).loc cc0_scratch3), (c : Thread nD τ).loc cc0_scratch3 ↦{fullShare} f) ∗ owing c 0)
      ⊢ iprop((((postJ m ρ c (peer c r 0) ∗ postJ m ρ c (peer c r 1)) ∗ wPart m c r ∗ idle c r ∗ wbfHas m c r ∗ owing c 0) -∗ wpc c k Q)
          -∗ wpc c (blockIn c r k) Q) := by
  iintro ⟨#HR, ⟨H0, H1⟩, Hf, ⟨%f3, Hw3⟩, HO⟩ Hk
  iapply (waitRecv_wp m ρ K c r 0) $$ [H0 HO]
  · isplitr; · iexact HR
    isplitl [H0] <;> iassumption
  iintro ⟨H0, HO⟩
  iapply (waitRecv_wp m ρ K c r 1) $$ [H1 HO]
  · isplitr; · iexact HR
    isplitl [H1] <;> iassumption
  iintro ⟨H1, HO⟩
  unfold owing flying
  icases HO with ⟨%W, HO⟩
  icases Hf with ⟨%fd, Hf⟩
  simp only [Prog.lift, Prog.bind_op, Prog.bind_ret, Prog.pure_eq_ret]
  iapply (wp_waitLocal EC 𝒱₀ (c : Thread nD τ) none () (show (wSlot r).view.dmaCredit = NW from rfl)) $$ [Hf HO]
  · isplitl [Hf] <;> iassumption
  iintro ⟨⟨Hs, Hw⟩, Hv, HO⟩
  unfold slotFull
  iapply (wp_load_rect 𝒱₀ (c : Thread nD τ) none Set.univ (m := wbuf) (r := slotR r) (slot_sub r)) $$ Hs; iintro Hs
  rw [read_slot]
  iapply (wp_load_rect 𝒱₀ (c : Thread nD τ) none Set.univ (m := wbf) (r := slotR r) (Finset.subset_univ _)) $$ Hw3; iintro Hw3
  iapply (wp_store 𝒱₀ (c : Thread nD τ) none Set.univ (m := wbf) (r := slotR r) (Mk := Finset.univ) (Finset.subset_univ _)) $$ Hw3; iintro Hw3
  iapply Hk
  isplitl [H0 H1]; · isplitl [H0] <;> iassumption
  isplitl [Hw]; · iexact Hw
  isplitl [Hs Hv]
  · unfold idle
    isplitl [Hs]; · iexists _; iexact Hs
    iexact Hv
  isplitl [Hw3]
  · unfold wbfHas
    iexists _
    isplitr; · ipureintro; exact read_wbf c r f3 (castW (wChunk m c r))
    iexact Hw3
  iexists _; iexact HO

theorem peers_ne (c : Dev nD) (r : Fin 16) : peer c r 0 ≠ peer c r 1 := fun h => by
  have := congrArg (fun x : Fin 16 × Fin 2 => x.2) ((peer_bijective c).1 (a₁ := (r, 0)) (a₂ := (r, 1)) h)
  exact Fin.zero_ne_one this

/-- Elements of the gathered rows, at their final contents. -/
def xgPts (c : Dev nD) (S : Finset S128x4096.Idx) : sProp 𝕄 := (c : Thread nD τ).loc cc0_scratch1 ↦[S]{fullShare} gath m ρ c
theorem recvPay_eq (c j : Dev nD) : recvPay m ρ c j = xgPts m ρ c (dstV j).view.set := rfl

/-- The columns of a block's two peers, together. -/
theorem cols_join (c : Dev nD) (r : Fin 16) :
    iprop(recvPay m ρ c (peer c r 0) ∗ recvPay m ρ c (peer c r 1)) ⊣⊢ xgPts m ρ c (colR c r).set := by
  rw [ldXg_cols, recvPay_eq, recvPay_eq]
  unfold xgPts
  exact (pointsTo_union (disj_dstV (peers_ne c r))).symm
theorem colR_sub (c : Dev nD) (r : Fin 16) : (xg.access (colR c r) : View sig .tc _ _ _).set ⊆ (colR c r).set := by
  rw [show (xg.access (colR c r) : View sig .tc _ _ _).set = (colR c r).set from View.set_slice_whole _ _]

abbrev outR : Rect S128x8192 := Rect.unit (s := S128x8192) ![0, 0] S128x8192.size inb_S128x8192_S128x8192_0_0
theorem read_out (f : (cc0_stg1_0 : Ref sig .tc).ty.Contents (Elt F)) :
    (outB.access outR : View sig .tc _ _ _).read (Elt F) f = f :=
  (View.readAt_rect ..).symm.trans (Memref.readAt_unit_zero (Elt F) cc0_stg1_0 zero2 _ f)
theorem write_out (f w : (cc0_stg1_0 : Ref sig .tc).ty.Contents (Elt F)) :
    (outB.access outR : View sig .tc _ _ _).write (Elt F) f w Finset.univ = w :=
  Memref.write_access_unit_zero_univ (Elt F) cc0_stg1_0 zero2 _ f w

/-- The second half of block 0. -/
theorem blockOut0_wp (c : Dev nD) (k : PUnit → PR F PUnit) (Q : PUnit → sProp 𝕄) :
    iprop((recvPay m ρ c (peer c 0 0) ∗ recvPay m ρ c (peer c 0 1)) ∗ wbfHas m c 0 ∗ (∃ v, outHas c v))
      ⊢ iprop((((recvPay m ρ c (peer c 0 0) ∗ recvPay m ρ c (peer c 0 1)) ∗ wbfHas m c 0 ∗ outHas c (acc m ρ c 0)) -∗ wpc c (k ⟨⟩) Q)
          -∗ wpc c (blockOut0 c >>= k) Q) := by
  iintro ⟨Hx, Hw, ⟨%v, Ho⟩⟩ Hk
  unfold wbfHas
  icases Hw with ⟨%f3, %h3, Hw⟩
  ihave Hx := (cols_join m ρ c 0).1 $$ Hx
  unfold outHas xgPts
  unfold blockOut0
  simp only [Prog.lift, Prog.bind_op, Prog.bind_ret, Prog.pure_eq_ret]
  iapply (wp_load_rect 𝒱₀ (c : Thread nD τ) none Set.univ (m := xg) (r := colR c 0) (colR_sub c 0)) $$ Hx; iintro Hx
  iapply (wp_load_rect 𝒱₀ (c : Thread nD τ) none Set.univ (m := wbf) (r := slotR 0) (Finset.subset_univ _)) $$ Hw; iintro Hw
  iapply (wp_load_rect 𝒱₀ (c : Thread nD τ) none Set.univ (m := outB) (r := outR) (Finset.subset_univ _)) $$ Ho; iintro Ho
  iapply (wp_store 𝒱₀ (c : Thread nD τ) none Set.univ (m := outB) (r := outR) (Mk := Finset.univ) (Finset.subset_univ _)) $$ Ho; iintro Ho
  rw [write_out, read_xg, h3]
  iapply Hk
  isplitl [Hx]; · iapply (cols_join m ρ c 0).2; unfold xgPts; iexact Hx
  isplitl [Hw]
  · iexists f3
    isplitr; · ipureintro; exact h3
    iexact Hw
  iexact Ho

/-- The second half of a later block. -/
theorem blockOut_wp (c : Dev nD) (r : Fin 16) (v : Vec F S128x8192 .f32) (k : PUnit → PR F PUnit) (Q : PUnit → sProp 𝕄) :
    iprop((recvPay m ρ c (peer c r 0) ∗ recvPay m ρ c (peer c r 1)) ∗ wbfHas m c r ∗ outHas c v)
      ⊢ iprop((((recvPay m ρ c (peer c r 0) ∗ recvPay m ρ c (peer c r 1)) ∗ wbfHas m c r
            ∗ outHas c (prodAdd (aCol m ρ c r) (castW (wChunk m c r)) v)) -∗ wpc c (k ⟨⟩) Q)
          -∗ wpc c (blockOut c r >>= k) Q) := by
  iintro ⟨Hx, Hw, Ho⟩ Hk
  unfold wbfHas
  icases Hw with ⟨%f3, %h3, Hw⟩
  ihave Hx := (cols_join m ρ c r).1 $$ Hx
  unfold outHas xgPts
  unfold blockOut
  simp only [Prog.lift, Prog.bind_op, Prog.bind_ret, Prog.pure_eq_ret]
  iapply (wp_load_rect 𝒱₀ (c : Thread nD τ) none Set.univ (m := xg) (r := colR c r) (colR_sub c r)) $$ Hx; iintro Hx
  iapply (wp_load_rect 𝒱₀ (c : Thread nD τ) none Set.univ (m := wbf) (r := slotR r) (Finset.subset_univ _)) $$ Hw; iintro Hw
  iapply (wp_load_rect 𝒱₀ (c : Thread nD τ) none Set.univ (m := outB) (r := outR) (Finset.subset_univ _)) $$ Ho; iintro Ho
  iapply (wp_load_rect 𝒱₀ (c : Thread nD τ) none Set.univ (m := outB) (r := outR) (Finset.subset_univ _)) $$ Ho; iintro Ho
  iapply (wp_store 𝒱₀ (c : Thread nD τ) none Set.univ (m := outB) (r := outR) (Mk := Finset.univ) (Finset.subset_univ _)) $$ Ho; iintro Ho
  rw [write_out, read_xg, h3, read_out]
  iapply Hk
  isplitl [Hx]; · iapply (cols_join m ρ c r).2; unfold xgPts; iexact Hx
  isplitl [Hw]
  · iexists f3
    isplitr; · ipureintro; exact h3
    iexact Hw
  iexact Ho

end Cert.KernelIdeal.Mesh
end
-- ==== Proof.KI.Splits.lean ====
/-
How a device's buffers and semaphores are dealt to the steps of its body, and collected from them at the end.
-/
module

public import proofs.«01_k».proof.Proof.KI.Blocks
public import Idealize.ShloMosaic.Lib.Ring

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- One of a finite family, and the others. -/
theorem split_at {I : Type} [Fintype I] [DecidableEq I] (i : I) (Φ : I → sProp 𝕄) :
    bigSep Finset.univ Φ = iprop(Φ i ∗ bigSep (Finset.univ.erase i) Φ) := BI.bigSep_univ_split i

omit [FloatOps F] in
/-- A finite family, member by member. -/
theorem mono_at {I : Type} {s : Finset I} {Φ Ψ : I → sProp 𝕄} (h : ∀ i ∈ s, Φ i ⊢ Ψ i) : bigSep s Φ ⊢ bigSep s Ψ := bigSep_mono h

/-- A buffer of device `c` holding anything. -/
def anyPts (c : Dev nD) (b : Ref sig .tc) : sProp 𝕄 := iprop(∃ f : Buf (Elt F) ((c : Thread nD τ).loc b), (c : Thread nD τ).loc b ↦{fullShare} f)

/-! ## Rounded rows -/

/-- The rounded block: the device's own rows and the rows of each remote copy. -/
theorem xbf_split (c : Dev nD) :
    ((c : Thread nD τ).loc cc0_scratch0 ↦{fullShare} xb m ρ c : sProp 𝕄)
      ⊣⊢ iprop((bigSep Finset.univ fun r => srcPts m ρ c r) ∗ ((c : Thread nD τ).loc cc0_scratch0 ↦[ownRows c]{fullShare} xb m ρ c)) := by
  have h := pointsTo_biUnion (Ix := Unit) (Name := ℕ) (U := UU) (Lvl := ℕ) (ℓ := (c : Thread nD τ).loc cc0_scratch0) (q := fullShare) (f := xb m ρ c) (Finset.univ : Finset (Fin 31)) (fun r => (srcV c r).view.set)
    (fun r _ r' _ hne => disj_srcV c hne)
  have e : (bigSep Finset.univ fun r => srcPts m ρ c r : sProp 𝕄) = _ := h.symm
  rw [e]
  exact pointsTo_split_subset (Finset.subset_univ _)

/-! ## Gathered rows -/

omit [FloatOps F] in
theorem xg_blocks (c : Dev nD) (f : Buf (Elt F) ((c : Thread nD τ).loc cc0_scratch1)) :
    ((c : Thread nD τ).loc cc0_scratch1 ↦{fullShare} f : sProp 𝕄) = bigSep Finset.univ fun j => colPts c j f :=
  Ring.pointsTo_blocks (ℓ := (c : Thread nD τ).loc cc0_scratch1) (fun j : Dev nD => (dstV j).view.set) (fun j j' h => disj_dstV h)
    (Finset.eq_univ_iff_forall.mpr fun i => Finset.mem_biUnion.mpr ((cover_dstV i).imp fun _ h => ⟨Finset.mem_univ _, h⟩)) f

omit [FloatOps F] in
theorem col_any (c j : Dev nD) (f : Buf (Elt F) ((c : Thread nD τ).loc cc0_scratch1)) : colPts c j f ⊢ barPay (F := F) j c := by
  unfold barPay; iintro H; iexists f; iexact H

omit [FloatOps F] in
/-- The gathered rows: the device's own columns, and the columns that go to each peer with its signal. -/
theorem xg_split (c : Dev nD) :
    anyPts (F := F) c cc0_scratch1 ⊢ iprop((∃ f, colPts c c f) ∗ bigSep Finset.univ fun r => barPay (sigDev c r) c) := by
  unfold anyPts
  iintro ⟨%f, H⟩
  ihave H := (Entails.of_eq ((xg_blocks c f).trans (split_at c _))) $$ H
  icases H with ⟨Hc, Hr⟩
  isplitl [Hc]; · iexists f; iexact Hc
  iapply (Entails.of_eq (show (bigSep (Finset.univ.erase c) fun j => barPay j c : sProp 𝕄) = bigSep Finset.univ fun r => barPay (sigDev c r) c from by
    rw [← image_sigDev c]; exact SparseCore.bigSep_image_of_injOn (sigDev_inj c).injOn _))
  iapply (mono_at (s := Finset.univ.erase c) (Φ := fun j => colPts c j f) (Ψ := fun j => barPay j c) fun j _ => col_any c j f)
  iexact Hr

/-! ## The rows of `w` -/

theorem w_blocks (c : Dev nD) : ((c : Thread nD τ).loc main_arg1 ↦{fullShare} wAll m c : sProp 𝕄) = bigSep Finset.univ fun r => wPart m c r :=
  Ring.pointsTo_blocks (ℓ := (c : Thread nD τ).loc main_arg1) (fun r : Fin 16 => (wRows c r).view.set) (fun r r' h => disj_wRows c h)
    (Finset.eq_univ_iff_forall.mpr fun i => Finset.mem_biUnion.mpr ((cover_wRows c i).imp fun _ h => ⟨Finset.mem_univ _, h⟩)) _

omit [FloatOps F] in
/-- The two slots. -/
theorem slots_split (c : Dev nD) :
    iprop(anyPts (F := F) c cc0_scratch2 ∗ semVal (wCell c 0) 0 ∗ semVal (wCell c 1) 0) ⊢ iprop(idle c 0 ∗ idle c 1) := by
  unfold anyPts idle
  iintro ⟨⟨%f, H⟩, H0, H1⟩
  ihave H := (Entails.of_eq (congrArg (fun S => ((c : Thread nD τ).loc cc0_scratch2 ↦[S]{fullShare} f : sProp 𝕄)) (slots_union 0 1 (by decide)).symm)) $$ H
  ihave H := (pointsTo_union (slots_disj 0 1 (by decide))).1 $$ H
  icases H with ⟨Ha, Hb⟩
  isplitl [Ha H0]
  · isplitl [Ha]; · iexists f; iexact Ha
    iexact H0
  isplitl [Hb]; · iexists f; iexact Hb
  iexact H1

omit [FloatOps F] in
theorem slots_join (c : Dev nD) :
    iprop(idle (F := F) c 0 ∗ idle c 1) ⊢ iprop(anyPts c cc0_scratch2 ∗ semVal (wCell c 0) 0 ∗ semVal (wCell c 1) 0) := by
  unfold anyPts idle
  iintro ⟨⟨⟨%f, Ha⟩, H0⟩, ⟨%g, Hb⟩, H1⟩
  isplitl [Ha Hb]
  · ihave H := (pointsTo_join (ℓ := (c : Thread nD τ).loc cc0_scratch2) (q := fullShare) (f := f) (g := g) (slots_disj 0 1 (by decide))) $$ [Ha Hb]
    · isplitl [Ha] <;> iassumption
    iexists _
    iapply (Entails.of_eq (congrArg (fun S => ((c : Thread nD τ).loc cc0_scratch2 ↦[S]{fullShare} _ : sProp 𝕄)) (slots_union 0 1 (by decide)))); iexact H
  isplitl [H0] <;> iassumption

/-! ## The waits for the peers' columns -/

abbrev blkPre (c : Dev nD) (r : Fin 16) : sProp 𝕄 := iprop(preJ m ρ c (peer c r 0) ∗ preJ m ρ c (peer c r 1))
abbrev blkPost (c : Dev nD) (r : Fin 16) : sProp 𝕄 := iprop(postJ m ρ c (peer c r 0) ∗ postJ m ρ c (peer c r 1))

omit [FloatOps F] in
/-- Every device is waited for in one block. -/
theorem by_block (c : Dev nD) (Φ : Dev nD → sProp 𝕄) :
    bigSep Finset.univ Φ = bigSep Finset.univ fun r : Fin 16 => iprop(Φ (peer c r 0) ∗ Φ (peer c r 1)) := by
  rw [BI.bigSep_univ_equiv (Equiv.ofBijective _ (peer_bijective c)) Φ, bigSep_univ_prod]
  exact bigSep_congr fun r _ => BI.bigSep_fin_two _

/-- Before the blocks: the device's own columns are there, the others are to come. -/
theorem pre_blocks (c : Dev nD) :
    iprop(recvPay m ρ c c ∗ semVal (recvCell c c) 0
        ∗ (bigSep (Finset.univ.erase c) fun j => iprop(cred (tallyAt (recvCell c j) () N) ∗ atPos ER (recvCell c j) 0 ∅ 0)))
      ⊢ bigSep Finset.univ fun r => blkPre (F := F) m ρ c r := by
  rw [show (bigSep Finset.univ fun r => blkPre (F := F) m ρ c r) = _ from ((split_at c fun j => preJ m ρ c j).symm.trans (by_block c _)).symm]
  iintro ⟨H1, H2, H⟩
  isplitl [H1 H2]
  · unfold preJ; rw [if_pos rfl]; isplitl [H1] <;> iassumption
  iapply (mono_at (s := Finset.univ.erase c) (Φ := fun j => iprop(cred (tallyAt (recvCell c j) () N) ∗ atPos ER (recvCell c j) 0 ∅ 0)) (Ψ := fun j => preJ m ρ c j) fun j hj =>
    Entails.of_eq (if_neg (Finset.ne_of_mem_erase hj)).symm)
  iexact H

/-- After the blocks: the gathered rows, whole, and every receive semaphore at zero. -/
theorem post_blocks (c : Dev nD) :
    (bigSep Finset.univ fun r => blkPost (F := F) m ρ c r)
      ⊢ iprop(anyPts c cc0_scratch1 ∗ bigSep Finset.univ fun j => semVal (recvCell c j) 0) := by
  refine (Entails.of_eq (by_block c (fun j => postJ m ρ c j)).symm).trans ?_
  unfold postJ
  rw [bigSep_sep']
  iintro ⟨H1, H2⟩
  isplitl [H1]
  · unfold anyPts
    iexists gath m ρ c
    iapply (Entails.of_eq (xg_blocks c (gath m ρ c)).symm)
    iexact H1
  iexact H2

end Cert.KernelIdeal.Mesh
end
-- ==== Proof.KI.Body.lean ====
/-
The kernel's body on one device, from what the launch deals it to its results: the signals, the barrier's wait, the
device's own rows, the remote copies, the sixteen blocks, the waits for the copies sent.
-/
module

public import proofs.«01_k».proof.Proof.KI.Splits

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## The blocks -/

/-- The slot that block `i` uses: its copy in flight, or idle when there is no block `i`. -/
def FL (c : Dev nD) (i : ℕ) : sProp 𝕄 := if h : i < 16 then flying m c ⟨i, h⟩ else idle c ⟨i % 2, by omega⟩

/-- The state before block `i`, but for the output block. -/
def Jr (c : Dev nD) (i : ℕ) : sProp 𝕄 :=
  iprop(bigSep (finFrom 16 i) (blkPre m ρ c) ∗ bigSep (finUpTo 16 i) (blkPost m ρ c)
    ∗ bigSep (finUpTo 16 i) (wPart m c) ∗ bigSep (finFrom 16 (i + 2)) (wPart m c)
    ∗ FL m c i ∗ FL m c (i + 1) ∗ anyPts c cc0_scratch3 ∗ owing c 0)
/-- The state in block `r`, but for the slot it has read. -/
def Mid (c : Dev nD) (r : Fin 16) : sProp 𝕄 :=
  iprop(bigSep (finFrom 16 (r.val + 1)) (blkPre m ρ c) ∗ bigSep (finUpTo 16 r.val) (blkPost m ρ c)
    ∗ bigSep (finUpTo 16 (r.val + 1)) (wPart m c) ∗ FL m c (r.val + 1) ∗ blkPost m ρ c r ∗ wbfHas m c r ∗ owing c 0)

theorem blk_in (c : Dev nD) (r : Fin 16) (k : PR F PUnit) (Q : PUnit → sProp 𝕄) :
    iprop(recs m ρ K ∗ Jr m ρ c r.val)
      ⊢ iprop(((Mid m ρ c r ∗ bigSep (finFrom 16 (r.val + 2)) (wPart m c) ∗ idle c r) -∗ wpc c k Q) -∗ wpc c (blockIn c r k) Q) := by
  unfold Jr
  rw [bigSep_finFrom_succ r.isLt, show FL m c r.val = flying m c r from dif_pos r.isLt]
  iintro ⟨#HR, ⟨Hp, Hps⟩, Hd, Hw, Hws, Hf, Hf', Hb, HO⟩ Hk
  unfold anyPts
  iapply (blockIn_wp m ρ K c r) $$ [Hp Hf Hb HO]
  · isplitr; · iexact HR
    isplitl [Hp]; · iexact Hp
    isplitl [Hf]; · iexact Hf
    isplitl [Hb] <;> iassumption
  iintro ⟨Hq, Hw1, Hi, Hb, HO⟩
  iapply Hk
  unfold Mid
  isplitr [Hws Hi]
  · isplitl [Hps]; · iexact Hps
    isplitl [Hd]; · iexact Hd
    isplitl [Hw Hw1]
    · rw [bigSep_finUpTo_succ r.isLt]
      isplitl [Hw1] <;> iassumption
    isplitl [Hf']; · iexact Hf'
    isplitl [Hq]; · iexact Hq
    isplitl [Hb] <;> iassumption
  isplitl [Hws] <;> iassumption

/-- The copy two blocks ahead, when there is such a block; -/
theorem blk_copy (c : Dev nD) (r : Fin 16) (h : r.val + 2 < 16) (k : PUnit → PR F PUnit) (Q : PUnit → sProp 𝕄) :
    iprop(bigSep (finFrom 16 (r.val + 2)) (wPart m c) ∗ idle c r)
      ⊢ iprop(((bigSep (finFrom 16 (r.val + 3)) (wPart m c) ∗ FL m c (r.val + 2)) -∗ wpc c (k ⟨⟩) Q) -∗ wpc c (copyW c ⟨r.val + 2, h⟩ >>= k) Q) := by
  rw [bigSep_finFrom_succ h, show FL m c (r.val + 2) = flying m c ⟨r.val + 2, h⟩ from dif_pos h,
    idle_congr c (r := r) (r' := ⟨r.val + 2, h⟩) (by dsimp only; omega)]
  iintro ⟨⟨Hw, Hws⟩, Hi⟩ Hk
  iapply (copyW_wp m c ⟨r.val + 2, h⟩) $$ [Hw Hi]
  · isplitl [Hi] <;> iassumption
  iintro Hf
  iapply Hk
  isplitl [Hws] <;> iassumption
omit [FloatOps F] in
theorem finFrom_ge (i : ℕ) (h : 16 ≤ i) : finFrom 16 i = ∅ := Finset.eq_empty_of_forall_notMem fun r hr => by
  rw [mem_finFrom] at hr; omega
/-- nothing, when there is none. -/
theorem blk_nocopy (c : Dev nD) (r : Fin 16) (h : 16 ≤ r.val + 2) :
    iprop(bigSep (finFrom 16 (r.val + 2)) (wPart m c) ∗ idle c r) ⊢ iprop(bigSep (finFrom 16 (r.val + 3)) (wPart m c) ∗ FL m c (r.val + 2)) := by
  rw [finFrom_ge _ h, finFrom_ge (r.val + 3) (by omega), show FL m c (r.val + 2) = idle c ⟨(r.val + 2) % 2, by omega⟩ from dif_neg (by omega),
    idle_congr c (r := r) (r' := ⟨(r.val + 2) % 2, by omega⟩) (by dsimp only; omega)]

theorem mid_out (c : Dev nD) (r : Fin 16) :
    iprop(Mid m ρ c r ∗ bigSep (finFrom 16 (r.val + 3)) (wPart m c) ∗ FL m c (r.val + 2))
      ⊢ iprop(((recvPay m ρ c (peer c r 0) ∗ recvPay m ρ c (peer c r 1)) ∗ wbfHas m c r)
        ∗ (((recvPay m ρ c (peer c r 0) ∗ recvPay m ρ c (peer c r 1)) ∗ wbfHas m c r) -∗ Jr m ρ c (r.val + 1))) := by
  unfold Mid Jr
  rw [bigSep_finUpTo_succ (Φ := blkPost m ρ c) r.isLt]
  rw [show blkPost m ρ c ⟨r.val, r.isLt⟩ = iprop((recvPay m ρ c (peer c r 0) ∗ semVal (recvCell c (peer c r 0)) 0)
    ∗ (recvPay m ρ c (peer c r 1) ∗ semVal (recvCell c (peer c r 1)) 0)) from rfl]
  iintro ⟨⟨Hps, Hd, Hw, Hf, ⟨⟨Ha, Hva⟩, Hb, Hvb⟩, Hx, HO⟩, Hws, Hf'⟩
  isplitl [Ha Hb Hx]
  · isplitl [Ha Hb]; · isplitl [Ha] <;> iassumption
    iexact Hx
  iintro ⟨⟨Ha, Hb⟩, Hx⟩
  isplitl [Hps]; · iexact Hps
  isplitl [Hd Ha Hva Hb Hvb]
  · isplitl [Ha Hva Hb Hvb]
    · isplitl [Ha Hva]
      · isplitl [Ha] <;> iassumption
      isplitl [Hb] <;> iassumption
    iexact Hd
  isplitl [Hw]; · iexact Hw
  isplitl [Hws]; · iexact Hws
  isplitl [Hf]; · iexact Hf
  isplitl [Hf']; · iexact Hf'
  isplitl [Hx]
  · unfold wbfHas anyPts
    icases Hx with ⟨%f, -, Hx⟩
    iexists f; iexact Hx
  iexact HO

theorem blk_out (c : Dev nD) (r : Fin 16) (v : Vec F S128x8192 .f32) (k : PUnit → PR F PUnit) (Q : PUnit → sProp 𝕄) :
    iprop((Mid m ρ c r ∗ bigSep (finFrom 16 (r.val + 3)) (wPart m c) ∗ FL m c (r.val + 2)) ∗ outHas c v)
      ⊢ iprop(((Jr m ρ c (r.val + 1) ∗ outHas c (prodAdd (aCol m ρ c r) (castW (wChunk m c r)) v)) -∗ wpc c (k ⟨⟩) Q)
          -∗ wpc c (blockOut c r >>= k) Q) := by
  iintro ⟨HM, Ho⟩ Hk
  ihave HM := (mid_out m ρ c r) $$ HM
  icases HM with ⟨⟨Hx, Hw⟩, Hb⟩
  iapply (blockOut_wp m ρ c r v) $$ [Hx Hw Ho]
  · isplitl [Hx]; · iexact Hx
    isplitl [Hw] <;> iassumption
  iintro ⟨Hx, Hw, Ho⟩
  iapply Hk
  isplitr [Ho]
  · iapply Hb
    isplitl [Hx] <;> iassumption
  iexact Ho

theorem blk_out0 (c : Dev nD) (k : PUnit → PR F PUnit) (Q : PUnit → sProp 𝕄) :
    iprop((Mid m ρ c 0 ∗ bigSep (finFrom 16 3) (wPart m c) ∗ FL m c 2) ∗ (∃ v, outHas c v))
      ⊢ iprop(((Jr m ρ c 1 ∗ outHas c (acc m ρ c 0)) -∗ wpc c (k ⟨⟩) Q) -∗ wpc c (blockOut0 c >>= k) Q) := by
  have hmid : iprop(Mid m ρ c 0 ∗ bigSep (finFrom 16 3) (wPart m c) ∗ FL m c 2)
      ⊢ iprop(((recvPay m ρ c (peer c 0 0) ∗ recvPay m ρ c (peer c 0 1)) ∗ wbfHas m c 0)
        ∗ (((recvPay m ρ c (peer c 0 0) ∗ recvPay m ρ c (peer c 0 1)) ∗ wbfHas m c 0) -∗ Jr m ρ c 1)) := mid_out m ρ c 0
  iintro ⟨HM, Ho⟩ Hk
  ihave HM := hmid $$ HM
  icases HM with ⟨⟨Hx, Hw⟩, Hb⟩
  iapply (blockOut0_wp m ρ c) $$ [Hx Hw Ho]
  · isplitl [Hx]; · iexact Hx
    isplitl [Hw] <;> iassumption
  iintro ⟨Hx, Hw, Ho⟩
  iapply Hk
  isplitr [Ho]
  · iapply Hb
    isplitl [Hx] <;> iassumption
  iexact Ho

theorem acc_step (c : Dev nD) (i : ℕ) (h : i + 1 < 16) :
    prodAdd (aCol m ρ c ⟨i + 1, h⟩) (castW (wChunk m c ⟨i + 1, h⟩)) (acc m ρ c i) = acc m ρ c (i + 1) := by
  rw [acc, show (Fin.ofNat 16 (i + 1)) = ⟨i + 1, h⟩ from Fin.ext (Nat.mod_eq_of_lt h)]

/-- The blocks 1 to 13. -/
theorem blocks_wp (c : Dev nD) (k : PR F PUnit) (Q : PUnit → sProp 𝕄) : ∀ (n : ℕ) (h : n ≤ 13),
    iprop(recs m ρ K ∗ Jr m ρ c (14 - n) ∗ outHas c (acc m ρ c (13 - n)))
      ⊢ iprop(((Jr m ρ c 14 ∗ outHas c (acc m ρ c 13)) -∗ wpc c k Q) -∗ wpc c (blocks c k n h) Q)
  | 0, h => by
    iintro ⟨-, HJ, Ho⟩ Hk
    unfold blocks
    iapply Hk
    isplitl [HJ] <;> iassumption
  | n + 1, h => by
    have ih := blocks_wp c k Q n (by omega)
    have hr : 14 - (n + 1) < 16 := by omega
    have hin := blk_in m ρ K c ⟨14 - (n + 1), hr⟩
      (do copyW c ⟨14 - (n + 1) + 2, by omega⟩; blockOut c ⟨14 - (n + 1), by omega⟩; blocks c k n (by omega)) Q
    have hcp := blk_copy m c ⟨14 - (n + 1), hr⟩ (by dsimp only; omega)
      (fun _ => blockOut c ⟨14 - (n + 1), by omega⟩ >>= fun _ => blocks c k n (by omega)) Q
    have hout := blk_out m ρ c ⟨14 - (n + 1), hr⟩ (acc m ρ c (13 - (n + 1))) (fun _ => blocks c k n (by omega)) Q
    have hacc := acc_step m ρ c (13 - (n + 1)) (by omega)
    have e1 : 13 - (n + 1) + 1 = 14 - (n + 1) := by omega
    have e2 : 14 - (n + 1) + 1 = 14 - n := by omega
    have e3 : 13 - (n + 1) + 1 = 13 - n := by omega
    rw [show (⟨13 - (n + 1) + 1, by omega⟩ : Fin 16) = ⟨14 - (n + 1), hr⟩ from Fin.ext e1, e3] at hacc
    rw [hacc] at hout
    dsimp only at hin hcp hout
    rw [e2] at hout
    iintro ⟨#HR, HJ, Ho⟩ Hk
    unfold blocks
    iapply hin $$ [HJ]
    · isplitr; · iexact HR
      iexact HJ
    iintro ⟨HM, Hws, Hi⟩
    iapply hcp $$ [Hws Hi]
    · isplitl [Hws] <;> iassumption
    iintro ⟨Hws, Hf⟩
    iapply hout $$ [HM Hws Hf Ho]
    · isplitl [HM Hws Hf]
      · isplitl [HM]; · iexact HM
        isplitl [Hws] <;> iassumption
      iexact Ho
    iintro ⟨HJ, Ho⟩
    iapply ih $$ [HJ Ho]
    · isplitr; · iexact HR
      isplitl [HJ] <;> iassumption
    iexact Hk

/-- A block without a copy ahead of it. -/
theorem blk_last (c : Dev nD) (i : ℕ) (hi : i + 1 < 16) (h : 16 ≤ i + 3) (k : PUnit → PR F PUnit) (Q : PUnit → sProp 𝕄) :
    iprop(recs m ρ K ∗ Jr m ρ c (i + 1) ∗ outHas c (acc m ρ c i))
      ⊢ iprop(((Jr m ρ c (i + 2) ∗ outHas c (acc m ρ c (i + 1))) -∗ wpc c (k ⟨⟩) Q)
          -∗ wpc c (blockIn c ⟨i + 1, hi⟩ (blockOut c ⟨i + 1, hi⟩ >>= k)) Q) := by
  iintro ⟨#HR, HJ, Ho⟩ Hk
  iapply (blk_in m ρ K c ⟨i + 1, hi⟩) $$ [HJ]
  · isplitr; · iexact HR
    iexact HJ
  iintro ⟨HM, Hws⟩
  ihave Hws := (blk_nocopy m c ⟨i + 1, hi⟩ h) $$ Hws
  iapply (blk_out m ρ c ⟨i + 1, hi⟩ (acc m ρ c i)) $$ [HM Hws Ho]
  · isplitl [HM Hws]; · isplitl [HM] <;> iassumption
    iexact Ho
  rw [acc_step]
  iexact Hk

/-- All the blocks: from the first copies in flight to the result. -/
theorem all_blocks (c : Dev nD) (k : PR F PUnit) (Q : PUnit → sProp 𝕄) :
    iprop(recs m ρ K ∗ Jr m ρ c 0 ∗ (∃ v, outHas c v))
      ⊢ iprop(((Jr m ρ c 16 ∗ outHas c (outAt m ρ c)) -∗ wpc c k Q)
        -∗ wpc c (blockIn c 0 do
            copyW c 2
            blockOut0 c
            blocks c (blockIn c 14 do
              blockOut c 14
              blockIn c 15 do
                blockOut c 15
                k) 13 (by omega)) Q) := by
  have hin (k' : PR F PUnit) : iprop(recs m ρ K ∗ Jr m ρ c 0)
      ⊢ iprop(((Mid m ρ c 0 ∗ bigSep (finFrom 16 2) (wPart m c) ∗ idle c 0) -∗ wpc c k' Q) -∗ wpc c (blockIn c 0 k') Q) := blk_in m ρ K c 0 k' Q
  have hcp (k' : PUnit → PR F PUnit) : iprop(bigSep (finFrom 16 2) (wPart m c) ∗ idle c 0)
      ⊢ iprop(((bigSep (finFrom 16 3) (wPart m c) ∗ FL m c 2) -∗ wpc c (k' ⟨⟩) Q) -∗ wpc c (copyW c 2 >>= k') Q) := blk_copy m c 0 (by decide) k' Q
  have hbl (k' : PR F PUnit) : iprop(recs m ρ K ∗ Jr m ρ c 1 ∗ outHas c (acc m ρ c 0))
      ⊢ iprop(((Jr m ρ c 14 ∗ outHas c (acc m ρ c 13)) -∗ wpc c k' Q) -∗ wpc c (blocks c k' 13 (by omega)) Q) := blocks_wp m ρ K c k' Q 13 (by omega)
  have h14 (k' : PUnit → PR F PUnit) : iprop(recs m ρ K ∗ Jr m ρ c 14 ∗ outHas c (acc m ρ c 13))
      ⊢ iprop(((Jr m ρ c 15 ∗ outHas c (acc m ρ c 14)) -∗ wpc c (k' ⟨⟩) Q) -∗ wpc c (blockIn c 14 (blockOut c 14 >>= k')) Q) :=
    blk_last m ρ K c 13 (by omega) (by omega) k' Q
  have h15 (k' : PUnit → PR F PUnit) : iprop(recs m ρ K ∗ Jr m ρ c 15 ∗ outHas c (acc m ρ c 14))
      ⊢ iprop(((Jr m ρ c 16 ∗ outHas c (acc m ρ c 15)) -∗ wpc c (k' ⟨⟩) Q) -∗ wpc c (blockIn c 15 (blockOut c 15 >>= k')) Q) :=
    blk_last m ρ K c 14 (by omega) (by omega) k' Q
  unfold outAt
  iintro ⟨#HR, HJ, Ho⟩ Hk
  iapply hin $$ [HJ]
  · isplitr; · iexact HR
    iexact HJ
  iintro ⟨HM, Hws, Hi⟩
  iapply hcp $$ [Hws Hi]
  · isplitl [Hws] <;> iassumption
  iintro ⟨Hws, Hf⟩
  iapply (blk_out0 m ρ c) $$ [HM Hws Hf Ho]
  · isplitl [HM Hws Hf]
    · isplitl [HM]; · iexact HM
      isplitl [Hws] <;> iassumption
    iexact Ho
  iintro ⟨HJ, Ho⟩
  iapply hbl $$ [HJ Ho]
  · isplitr; · iexact HR
    isplitl [HJ] <;> iassumption
  iintro ⟨HJ, Ho⟩
  iapply h14 $$ [HJ Ho]
  · isplitr; · iexact HR
    isplitl [HJ] <;> iassumption
  iintro ⟨HJ, Ho⟩
  iapply h15 $$ [HJ Ho]
  · isplitr; · iexact HR
    isplitl [HJ] <;> iassumption
  iexact Hk

/-! ## The device's own rows -/

abbrev xinR : Rect S4096x128 := Rect.unit (s := S4096x128) ![0, 0] S4096x128.size inb_S4096x128_S4096x128_0_0

theorem read_xin (f : (cc0_stg0_0 : Ref sig .tc).ty.Contents (Elt F)) : (xin.access xinR : View sig .tc _ _ _).read (Elt F) f = f :=
  (View.readAt_rect ..).symm.trans (Memref.readAt_unit_zero (Elt F) cc0_stg0_0 zero2 _ f)
theorem write_xbf (f w : (cc0_scratch0 : Ref sig .tc).ty.Contents (Elt F)) : (xbf.access xinR : View sig .tc _ _ _).write (Elt F) f w Finset.univ = w :=
  Memref.write_access_unit_zero_univ (Elt F) cc0_scratch0 zero2 _ f w
theorem ownDst_sub (c : Dev nD) : (xg.access (ownDstR c) : View sig .tc _ _ _).set ⊆ (dstV c).view.set := by rw [set_ownDst]

theorem ownBlock_wp (c : Dev nD) (k : PUnit → PR F PUnit) (Q : PUnit → sProp 𝕄) :
    iprop(((c : Thread nD τ).loc cc0_stg0_0 ↦{fullShare} xstg m ρ c) ∗ anyPts c cc0_scratch0 ∗ (∃ f, colPts c c f))
      ⊢ iprop(((((c : Thread nD τ).loc cc0_stg0_0 ↦{fullShare} xstg m ρ c) ∗ ((c : Thread nD τ).loc cc0_scratch0 ↦{fullShare} xb m ρ c) ∗ recvPay m ρ c c)
          -∗ wpc c (k ⟨⟩) Q) -∗ wpc c (ownBlock c >>= k) Q) := by
  unfold anyPts colPts recvPay
  iintro ⟨Hx, ⟨%f0, Hb⟩, ⟨%f1, Hg⟩⟩ Hk
  unfold ownBlock
  simp only [Prog.lift, Prog.bind_op, Prog.bind_ret, Prog.pure_eq_ret]
  iapply (wp_load_rect 𝒱₀ (c : Thread nD τ) none Set.univ (m := xin) (r := xinR) (Finset.subset_univ _)) $$ Hx; iintro Hx
  iapply (wp_load_rect 𝒱₀ (c : Thread nD τ) none Set.univ (m := xbf) (r := xinR) (Finset.subset_univ _)) $$ Hb; iintro Hb
  iapply (wp_store 𝒱₀ (c : Thread nD τ) none Set.univ (m := xbf) (r := xinR) (Mk := Finset.univ) (Finset.subset_univ _)) $$ Hb; iintro Hb
  rw [write_xbf, read_xin]
  iapply (wp_load_rect 𝒱₀ (c : Thread nD τ) none Set.univ (m := xbf) (r := ownSrcR c) (Finset.subset_univ _)) $$ Hb; iintro Hb
  iapply (wp_load_rect 𝒱₀ (c : Thread nD τ) none Set.univ (m := xg) (r := ownDstR c) (ownDst_sub c)) $$ Hg; iintro Hg
  iapply (wp_store 𝒱₀ (c : Thread nD τ) none Set.univ (m := xg) (r := ownDstR c) (Mk := Finset.univ) (ownDst_sub c)) $$ Hg; iintro Hg
  iapply Hk
  isplitl [Hx]; · iexact Hx
  isplitl [Hb]; · unfold xb; iexact Hb
  unfold colPts
  iapply (Entails.of_eq (pointsTo_congr (landed_own m ρ c f1)))
  iexact Hg

end Cert.KernelIdeal.Mesh
end
-- ==== Proof.KI.Device.lean ====
/-
One device from the launch's deal to its results: `pre` and `post` of the body at a symbolic device, and the body between
them.
-/
module

public import proofs.«01_k».proof.Proof.KI.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- The tokens of the duties device `c` pays: its signals, the two ends of its copies. -/
def payToks (c : Dev nD) : sProp 𝕄 :=
  iprop((bigSep Finset.univ fun r : Fin 31 => dutyTok ER (barCell (sigDev c r)) 0 c)
    ∗ (bigSep Finset.univ fun r : Fin 31 => dutyTok ER (sendCell c r) 0 c)
    ∗ (bigSep Finset.univ fun r : Fin 31 => dutyTok ER (recvCell (sendDev c r) c) 0 (sendDev c r)))

/-- Its positions in its own cells' rounds. -/
def poss (c : Dev nD) : sProp 𝕄 := bigSep Finset.univ fun k : CK => atPos ER (kcell (c, k)) 0 ∅ 0

/-- What it may wait for. -/
def creds (c : Dev nD) : sProp 𝕄 :=
  iprop(cred (tallyAt (barCell c) () 31) ∗ bigSep (Finset.univ.erase c) fun j => cred (tallyAt (recvCell c j) () N))

/-- The scratch buffers, the weights, and the two semaphores no other device knows. -/
def bufs (c : Dev nD) : sProp 𝕄 :=
  iprop((anyPts c cc0_scratch0 ∗ anyPts c cc0_scratch1 ∗ anyPts c cc0_scratch2 ∗ anyPts c cc0_scratch3)
    ∗ ((c : Thread nD τ).loc main_arg1 ↦{fullShare} wAll m c))

def pre (c : Dev nD) : sProp 𝕄 :=
  iprop((recs m ρ K ∗ levAts L lv) ∗ poss c ∗ payToks c ∗ creds c ∗ bufs m c ∗ (semVal (wCell c 0) 0 ∗ semVal (wCell c 1) 0)
    ∗ ((c : Thread nD τ).loc cc0_stg0_0 ↦{fullShare} xstg m ρ c) ∗ (∃ v, outHas c v) ∗ owing c (O₀ c))

def sems (c : Dev nD) : sProp 𝕄 :=
  iprop((((semVal ((c : Thread nD τ), .dma idleS) 0) ∗ bigSep Finset.univ fun r => semVal (sendCell c r) 0) ∗ bigSep Finset.univ fun j => semVal (recvCell c j) 0)
    ∗ semVal (wCell c 0) 0 ∗ semVal (wCell c 1) 0)

def post (c : Dev nD) : sProp 𝕄 :=
  iprop(bufs m c ∗ sems c ∗ semVal (barCell c) 0
    ∗ ((c : Thread nD τ).loc cc0_stg0_0 ↦{fullShare} xstg m ρ c) ∗ outHas c (outAt m ρ c) ∗ owing c 0)

omit [FloatOps F] in
theorem bigSep_one (Φ : Fin 1 → sProp 𝕄) : bigSep Finset.univ Φ = Φ 0 := bigSep_univ_eq_bigSepL [0] (by decide) (by decide) Φ

omit [FloatOps F] in
theorem poss_eq (c : Dev nD) : (poss c : sProp 𝕄)
    = iprop(atPos ER (barCell c) 0 ∅ 0 ∗ ((atPos ER ((c : Thread nD τ), .dma idleS) 0 ∅ 0 ∗ bigSep Finset.univ fun r => atPos ER (sendCell c r) 0 ∅ 0)
        ∗ (atPos ER (recvCell c c) 0 ∅ 0 ∗ bigSep (Finset.univ.erase c) fun j => atPos ER (recvCell c j) 0 ∅ 0))) := by
  unfold poss
  rw [BI.bigSep_univ_sum, BI.bigSep_univ_sum, BI.bigSep_univ_sum, bigSep_univ_at _ c, bigSep_one, bigSep_one]
  rfl

theorem jr_start (c : Dev nD) :
    iprop((bigSep Finset.univ fun r => blkPre m ρ c r) ∗ (bigSep (finFrom 16 2) (wPart m c)) ∗ flying m c 0 ∗ flying m c 1 ∗ anyPts c cc0_scratch3 ∗ owing c 0)
      ⊢ Jr m ρ c 0 := by
  unfold Jr
  rw [finFrom_zero, bigSep_finUpTo_zero, bigSep_finUpTo_zero, show FL m c 0 = flying m c 0 from rfl, show FL m c (0 + 1) = flying m c 1 from rfl]
  iintro ⟨Hp, Hw, H0, H1, Hb, HO⟩
  isplitl [Hp]; · iexact Hp
  isplitr; · iempintro
  isplitr; · iempintro
  isplitl [Hw]; · iexact Hw
  isplitl [H0]; · iexact H0
  isplitl [H1]; · iexact H1
  isplitl [Hb] <;> iassumption

theorem jr_end (c : Dev nD) :
    Jr m ρ c 16 ⊢ iprop((bigSep Finset.univ fun r => blkPost m ρ c r) ∗ (bigSep Finset.univ fun r => wPart m c r) ∗ idle c 0 ∗ idle c 1 ∗ anyPts c cc0_scratch3 ∗ owing c 0) := by
  unfold Jr
  rw [finUpTo_self, show FL m c 16 = idle c 0 from rfl, show FL m c (16 + 1) = idle c 1 from rfl]
  iintro ⟨-, Hq, Hw, -, H0, H1, Hb, HO⟩
  isplitl [Hq]; · iexact Hq
  isplitl [Hw]; · iexact Hw
  isplitl [H0]; · iexact H0
  isplitl [H1]; · iexact H1
  isplitl [Hb] <;> iassumption

omit [FloatOps F] in
theorem two_w (c : Dev nD) : (bigSep Finset.univ fun r => wPart m c r : sProp 𝕄) = iprop(wPart m c 0 ∗ wPart m c 1 ∗ bigSep (finFrom 16 2) (wPart m c)) := by
  rw [← finFrom_zero, bigSep_finFrom_succ (by decide : 0 < 16), bigSep_finFrom_succ (by decide : 0 + 1 < 16)]; rfl

/-! ## The three runs of thirty-one -/

theorem signals_wp (c : Dev nD) (k : PR F PUnit) (Q : PUnit → sProp 𝕄) :
    iprop(recs m ρ K ∗ (bigSep Finset.univ fun r : Fin 31 => dutyTok ER (barCell (sigDev c r)) 0 c) ∗ (bigSep Finset.univ fun r => barPay (sigDev c r) c) ∗ owing c (O₀ c))
      ⊢ iprop((owing c (OW c) -∗ wpc c k Q) -∗ wpc c (run31 (sigStep c) k 31 (by omega)) Q) := by
  have h := run31_wp c (sigStep c) (recs m ρ K) (fun r => iprop(dutyTok ER (barCell (sigDev c r)) 0 c ∗ barPay (sigDev c r) c)) (fun _ => iprop(emp))
    (fun r => tallyAt (barCell (sigDev c r)) () 1) (OW c) k Q (fun r k' => sig_step m ρ K c r _ k' Q) 31 (by omega)
  rw [show 31 - 31 = 0 from rfl, finFrom_zero, bigSep_finUpTo_zero, bigSep_sep'] at h
  iintro ⟨#HR, Ht, Hp, HO⟩ Hk
  iapply h $$ [Ht Hp HO]
  · isplitr; · iexact HR
    isplitl [Ht Hp]; · isplitl [Ht] <;> iassumption
    isplitr; · iempintro
    unfold O₀; iexact HO
  iintro ⟨-, HO⟩
  iapply Hk; iexact HO

theorem sends_wp (c : Dev nD) (k : PR F PUnit) (Q : PUnit → sProp 𝕄) :
    iprop(recs m ρ K ∗ ((bigSep Finset.univ fun r => srcPts m ρ c r) ∗ (bigSep Finset.univ fun r => barPay c (sendDev c r))
        ∗ (bigSep Finset.univ fun r : Fin 31 => dutyTok ER (sendCell c r) 0 c)
        ∗ (bigSep Finset.univ fun r : Fin 31 => dutyTok ER (recvCell (sendDev c r) c) 0 (sendDev c r))) ∗ owing c (OW c))
      ⊢ iprop((((bigSep Finset.univ fun r => cred (tallyAt (sendCell c r) () N)) ∗ owing c 0) -∗ wpc c k Q) -∗ wpc c (run31 (sendStep c) k 31 (by omega)) Q) := by
  have h := run31_wp c (sendStep c) (recs m ρ K)
    (fun r => iprop(srcPts m ρ c r ∗ barPay c (sendDev c r) ∗ dutyTok ER (sendCell c r) 0 c ∗ dutyTok ER (recvCell (sendDev c r) c) 0 (sendDev c r)))
    (fun r => cred (tallyAt (sendCell c r) () N)) (fun r => tallyAt (recvCell (sendDev c r) c) () N) 0 k Q
    (fun r k' => send_step m ρ K c r _ k' Q) 31 (by omega)
  rw [show 31 - 31 = 0 from rfl, finFrom_zero, bigSep_finUpTo_zero, bigSep_sep', bigSep_sep', bigSep_sep', zero_add] at h
  iintro ⟨#HR, Hr, HO⟩ Hk
  iapply h $$ [Hr HO]
  · isplitr; · iexact HR
    isplitl [Hr]; · iexact Hr
    isplitr; · iempintro
    unfold OW; iexact HO
  iexact Hk

theorem waits_wp (c : Dev nD) (k : PR F PUnit) (Q : PUnit → sProp 𝕄) :
    iprop(recs m ρ K ∗ ((bigSep Finset.univ fun r => cred (tallyAt (sendCell c r) () N)) ∗ (bigSep Finset.univ fun r => atPos ER (sendCell c r) 0 ∅ 0)) ∗ owing c 0)
      ⊢ iprop(((((bigSep Finset.univ fun r => srcPts m ρ c r) ∗ (bigSep Finset.univ fun r => semVal (sendCell c r) 0)) ∗ owing c 0) -∗ wpc c k Q)
          -∗ wpc c (run31 (waitSend c) k 31 (by omega)) Q) := by
  have h := run31_wp c (waitSend c) (recs m ρ K)
    (fun r => iprop(cred (tallyAt (sendCell c r) () N) ∗ atPos ER (sendCell c r) 0 ∅ 0))
    (fun r => iprop(srcPts m ρ c r ∗ semVal (sendCell c r) 0)) (fun _ => 0) 0 k Q
    (fun r k' => by simp only [Finset.sum_const_zero, add_zero]; exact waitSend_step m ρ K c r k' Q) 31 (by omega)
  rw [show 31 - 31 = 0 from rfl, finFrom_zero, bigSep_finUpTo_zero, bigSep_sep', bigSep_sep', Finset.sum_const_zero, add_zero] at h
  iintro ⟨#HR, Hr, HO⟩ Hk
  iapply h $$ [Hr HO]
  · isplitr; · iexact HR
    isplitl [Hr]; · iexact Hr
    isplitr; · iempintro
    iexact HO
  iexact Hk

/-! ## The body -/

set_option maxHeartbeats 800000 in
theorem device_wp (c : Dev nD) (Q : PUnit → sProp 𝕄) : pre m ρ K c ⊢ iprop((post m ρ c -∗ Q ⟨⟩) -∗ wpc c (bodyL c) Q) := by
  unfold pre bufs payToks creds
  rw [poss_eq, w_blocks, two_w]
  iintro ⟨⟨#HR, #Hlev⟩, ⟨HaB, ⟨HaI, HaS⟩, HaO, HaV⟩, ⟨HtB, HtS, HtV⟩, ⟨HcB, HcV⟩, ⟨⟨H0, H1, H2, H3⟩, Hw0, Hw1, Hw⟩, Hsw, Hx, Ho, HO⟩ Hk
  -- the two cells that nothing ever comes to
  ihave #Hc := (recs_at m ρ K (kIdle c)) $$ HR
  icases Hc with ⟨#HI, -⟩
  imod (Rounds.cell_close ER (Rd m ρ) (Set.mem_univ (K (kIdle c))) (fun h => h) (R := 0) (duties_idle m ρ c)) $$ [HaI] with HzI
  · isplitr; · iexact HI
    iexact HaI
  ihave #Hc' := (recs_at m ρ K (kRecv c c)) $$ HR
  icases Hc' with ⟨#HI', -⟩
  imod (Rounds.cell_close ER (Rd m ρ) (Set.mem_univ (K (kRecv c c))) (fun h => h) (R := 0) (duties_own m ρ c)) $$ [HaO] with HzO
  · isplitr; · iexact HI'
    iexact HaO
  -- the handshake: the columns of the gathered operand given away, those of the others got
  ihave H1 := (xg_split c) $$ H1
  icases H1 with ⟨Hown, Hgive⟩
  unfold bodyL
  iapply (signals_wp m ρ K c) $$ [HtB Hgive HO]
  · isplitr; · iexact HR
    isplitl [HtB]; · iexact HtB
    isplitl [Hgive] <;> iassumption
  iintro HO
  iapply (waitBar_step m ρ K c) $$ [HcB HaB HO]
  · isplitr; · iexact HR
    isplitr; · iexact Hlev
    isplitl [HcB HaB]; · isplitl [HcB] <;> iassumption
    iexact HO
  iintro ⟨⟨Hgot, HzB⟩, HO⟩
  unfold afterBarrier
  ihave Hi := (slots_split c) $$ [H2 Hsw]
  · isplitl [H2] <;> iassumption
  icases Hi with ⟨Hi0, Hi1⟩
  iapply (copyW_wp m c 0) $$ [Hi0 Hw0]
  · isplitl [Hi0] <;> iassumption
  iintro Hf0
  iapply (copyW_wp m c 1) $$ [Hi1 Hw1]
  · isplitl [Hi1] <;> iassumption
  iintro Hf1
  iapply (ownBlock_wp m ρ c) $$ [Hx H0 Hown]
  · isplitl [Hx]; · iexact Hx
    isplitl [H0] <;> iassumption
  iintro ⟨Hx, H0, Hown⟩
  ihave H0 := (xbf_split m ρ c).1 $$ H0
  icases H0 with ⟨Hsrc, Hrows⟩
  iapply (sends_wp m ρ K c) $$ [Hsrc Hgot HtS HtV HO]
  · isplitr; · iexact HR
    isplitl [Hsrc Hgot HtS HtV]
    · isplitl [Hsrc]; · iexact Hsrc
      isplitl [Hgot]; · iexact Hgot
      isplitl [HtS] <;> iassumption
    iexact HO
  iintro ⟨HcS, HO⟩
  -- the blocks
  ihave Hpre := (pre_blocks m ρ c) $$ [Hown HzO HcV HaV]
  · isplitl [Hown]; · iexact Hown
    isplitl [HzO]; · iexact HzO
    rw [bigSep_sep']
    isplitl [HcV] <;> iassumption
  ihave HJ := (jr_start m ρ c) $$ [Hpre Hw Hf0 Hf1 H3 HO]
  · isplitl [Hpre]; · iexact Hpre
    isplitl [Hw]; · iexact Hw
    isplitl [Hf0]; · iexact Hf0
    isplitl [Hf1]; · iexact Hf1
    isplitl [H3] <;> iassumption
  iapply (all_blocks m ρ K c) $$ [HJ Ho]
  · isplitr; · iexact HR
    isplitl [HJ] <;> iassumption
  iintro ⟨HJ, Ho⟩
  ihave HJ := (jr_end m ρ c) $$ HJ
  icases HJ with ⟨Hq, Hw, Hi0, Hi1, H3, HO⟩
  -- the copies it sent have left
  iapply (waits_wp m ρ K c) $$ [HcS HaS HO]
  · isplitr; · iexact HR
    isplitl [HcS HaS]; · isplitl [HcS] <;> iassumption
    iexact HO
  iintro ⟨⟨Hsrc, HzS⟩, HO⟩
  ihave Hq := (post_blocks m ρ c) $$ Hq
  icases Hq with ⟨H1, HzV⟩
  ihave Hi := (slots_join c) $$ [Hi0 Hi1]
  · isplitl [Hi0] <;> iassumption
  icases Hi with ⟨H2, Hsw⟩
  ihave H0 := (xbf_split m ρ c).2 $$ [Hsrc Hrows]
  · isplitl [Hsrc] <;> iassumption
  simp only [wpc, Prog.pure_eq_ret, wp_ret]
  imodintro
  iapply Hk
  unfold post bufs sems
  rw [w_blocks]
  isplitl [H0 H1 H2 H3 Hw]
  · isplitr [Hw]
    · isplitl [H0]; · unfold anyPts; iexists (xb m ρ c); iexact H0
      isplitl [H1]; · iexact H1
      isplitl [H2] <;> iassumption
    iexact Hw
  isplitl [HzI HzS HzV Hsw]
  · isplitr [Hsw]
    · isplitl [HzI HzS]; · isplitl [HzI] <;> iassumption
      iexact HzV
    iexact Hsw
  isplitl [HzB]; · iexact HzB
  isplitl [Hx]; · iexact Hx
  isplitl [Ho] <;> iassumption

end Cert.KernelIdeal.Mesh
end
-- ==== Proof.KI.Run.lean ====
/-
The body as the pipeline's obligation: what the staging buffers hold before and after it, what a device brings to it from
the launch and leaves after it.
-/
module

public import proofs.«01_k».proof.Proof.KI.Device

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch's global step leaves with device `c`. -/
def dealt (c : Dev nD) : sProp 𝕄 :=
  iprop((∃ K, recs m ρ K ∗ poss c ∗ payToks c) ∗ semVal (wCell c 0) 0 ∗ semVal (wCell c 1) 0)
/-- What it brings to the region, -/
def start (c : Dev nD) : sProp 𝕄 :=
  iprop(dealt m ρ c ∗ creds c ∗ levAts L lv ∗ ((c : Thread nD τ).loc main_arg1 ↦{fullShare} wAll m c))
/-- with the scratch buffers, -/
def Φ₀ (c : Dev nD) : sProp 𝕄 :=
  iprop(start m ρ c ∗ anyPts c cc0_scratch0 ∗ anyPts c cc0_scratch1 ∗ anyPts c cc0_scratch2 ∗ anyPts c cc0_scratch3)
/-- and what it has after the body. -/
def Φ₁ (c : Dev nD) : sProp 𝕄 := iprop(bufs m c ∗ sems c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m ρ c) ∗ stg c cc0_stg1_0 (outAt m ρ c))

theorem sound_body (c : Dev nD) : bodyPre m ρ c ⊢ wpc c (bodyAt0 t0_0) (fun _ => bodyPost m ρ c) := by
  rw [body_eq]
  simp only [wpc, Prog.lift, Prog.bind_op, Prog.bind_ret, wp_deviceId]
  unfold bodyPre Φ₀ start dealt
  iintro ⟨⟨⟨⟨⟨%K, #HR, Hpos, Htok⟩, Hsw⟩, Hcr, #Hlev, Hw⟩, Hscr⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (device_wp m ρ K c (fun _ => bodyPost m ρ c)) $$ [Hpos Htok Hsw Hcr Hw Hscr Hx Hout HO]
  · unfold pre bufs
    isplitr
    · isplitr; · iexact HR
      iexact Hlev
    isplitl [Hpos]; · iexact Hpos
    isplitl [Htok]; · iexact Htok
    isplitl [Hcr]; · iexact Hcr
    isplitl [Hscr Hw]; · isplitl [Hscr] <;> iassumption
    isplitl [Hsw]; · iexact Hsw
    isplitl [Hx]; · iexact Hx
    isplitl [Hout]
    · unfold outHas; iexists g1; iexact Hout
    unfold owing; iexists W; iexact HO
  unfold post bodyPost Φ₁ owing outHas Dat.owesAt Pipeline.owesWithin
  iintro ⟨Hb, Hs, Hz, Hx, Ho, ⟨%W', HO⟩⟩
  isplitl [Hb Hs Hz]
  · isplitl [Hb]; · iexact Hb
    isplitl [Hs] <;> iassumption
  isplitl [HO]
  · iexists W'
    isplitr; · ipureintro; exact fun _ _ => Or.inl trivial
    rw [show (dats m ρ 0 c).owed t0_0.succ = 0 from rfl]
    iexact HO
  isplitl [Hx]
  · iexists _; isplitr; · (ipureintro; rfl)
    iexact Hx
  iexists _; isplitr; · (ipureintro; rfl)
  iexact Ho

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelIdeal.Mesh
end
-- ==== Proof.KI.Launch.lean ====
/-
The launch: the rounds' state dealt to the devices, the semaphores turned into the cells' invariants, the credits each
device may wait for, and the run of @main on the mesh.
-/
module

public import proofs.«01_k».proof.Proof.KI.Run
public import Idealize.ShloMosaic.Lib.Pipeline.CollectiveSegs

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

theorem osem_val (k : SK) : ∃ q : DmaSem sig, osem k = .dma q ∧ 2 ≤ q.val := by
  rcases k with k | s
  · exact ⟨okSem k, rfl, (okSem_val k).1⟩
  · exact ⟨_, rfl, by rw [wS_val]; omega⟩

theorem osem_inj : Function.Injective osem := by
  rintro (k | s) (k' | s') h
  · exact congrArg Sum.inl (okSem_inj (SemLoc.dma.inj h))
  · have h' := congrArg Fin.val (SemLoc.dma.inj h)
    have := okSem_val k
    rw [wS_val] at h'; omega
  · have h' := congrArg Fin.val (SemLoc.dma.inj h)
    have := okSem_val k'
    rw [wS_val] at h'; omega
  · have h' := congrArg Fin.val (SemLoc.dma.inj h)
    rw [wS_val, wS_val] at h'
    rw [show s = s' from Fin.ext (by dsimp only at h'; omega)]

theorem stage_val (w : Fin 2) (s : Fin (spec0 w).nbuf) : ((spec0 w).sem s).val < 2 := by revert w s; decide

theorem dma_scoped : ∀ q : DmaSem sig, (SemLoc.dma q : SemLoc sig).isScoped .tc = true := by decide +kernel

theorem ownSemFacts : Pipeline.OwnSemFacts cfg0.spec osem where
  isScoped k := by obtain ⟨q, hq, -⟩ := osem_val k; rw [hq]; exact dma_scoped q
  inj := osem_inj
  disj k w s h := by
    obtain ⟨q, hq, h2⟩ := osem_val k
    rw [hq] at h
    have := congrArg Fin.val (SemLoc.dma.inj h)
    have : ((cfg0.spec w).sem s).val < 2 := stage_val w s
    omega

theorem share_eq (c : Dev nD) (w : Fin cfg0.W) : (dats m ρ 0 c).share w = fullShare := by unfold Dat.share; split <;> rfl

/-! ## The launch element -/

def meshCells : Finset (GSem nD τ sig) := Finset.univ.map ⟨kcell, kcell_inj⟩

/-- The tokens, by the device that pays: its signals, the two ends of its copies. -/
abbrev TK : Type := Fin 31 ⊕ Fin 31 ⊕ Fin 31
def tokOf (ck : Dev nD × TK) : GSem nD τ sig × ℕ × Dev nD := match ck.2 with
  | .inl r => (barCell (sigDev ck.1 r), 0, ck.1)
  | .inr (.inl r) => (sendCell ck.1 r, 0, ck.1)
  | .inr (.inr r) => (recvCell (sendDev ck.1 r) ck.1, 0, sendDev ck.1 r)
theorem tokOf_inj : Function.Injective tokOf := by
  rintro ⟨c, r | r | r⟩ ⟨c', r' | r' | r'⟩ h <;> have hd := congrArg (fun x : GSem nD τ sig × ℕ × Dev nD => x.1.1.1) h <;>
    have hs := congrArg (fun x : GSem nD τ sig × ℕ × Dev nD => x.1.2) h <;> have hp := congrArg (fun x : GSem nD τ sig × ℕ × Dev nD => x.2.2) h <;>
    simp only [tokOf] at hd hs hp
  · subst hp; rw [sigDev_inj c hd]
  · cases hs
  · cases hs
  · cases hs
  · subst hp
    have h' := congrArg Fin.val (SemLoc.dma.inj hs); rw [sendS_val, sendS_val] at h'
    rw [show r = r' from Fin.ext (by omega)]
  · have h' := congrArg Fin.val (SemLoc.dma.inj hs); rw [sendS_val, recvMeS_val] at h'; omega
  · cases hs
  · have h' := congrArg Fin.val (SemLoc.dma.inj hs); rw [sendS_val, recvMeS_val] at h'; omega
  · have h' := congrArg Fin.val (SemLoc.dma.inj hs); rw [recvMeS_val, recvMeS_val] at h'
    obtain rfl : c = c' := Fin.ext (by omega)
    rw [sendDev_inj c hd]
def meshToks : Finset (GSem nD τ sig × ℕ × Dev nD) := Finset.univ.map ⟨tokOf, tokOf_inj⟩

def u₀ : UU := (initOf (Pipeline.cells cfgs cellOf_inj) (Pipeline.launchToks cfgs cellOf_inj), (initOf meshCells meshToks, 1))

/-- What the launch element deals device `c`. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ payToks c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => payToks c := by
    unfold meshToks; rw [bigSep_map, bigSep_univ_prod]
    exact bigSep_congr fun c _ => by unfold payToks; rw [BI.bigSep_univ_sum, BI.bigSep_univ_sum]; rfl
  iintro HX
  imod (Rounds.fund ER (Rd m ρ) meshCells meshToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem fin2_sep (Φ : Fin 2 → sProp 𝕄) : bigSep Finset.univ Φ = iprop(Φ 0 ∗ Φ 1) := bigSep_univ_eq_bigSepL [0, 1] (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : OK => semVal ((c : Thread nD τ), .dma (okSem k)) 0) ∗ semVal (wCell c 0) 0 ∗ semVal (wCell c 1) 0) := by
  unfold Pipeline.ownSems0
  rw [BI.bigSep_univ_sum, fin2_sep]
  rfl
omit [FloatOps F] in
theorem sems_eq (c : Dev nD) : (sems c : sProp 𝕄)
    = (Pipeline.ownSems0 (Ix := Unit) (Name := ℕ) (U := UU) (Lvl := ℕ) (Val := Elt F) (τ := τ) osem c : sProp 𝕄) := by
  rw [ownSems0_eq, BI.bigSep_univ_sum, BI.bigSep_univ_sum, bigSep_one]
  rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ semVal (wCell c 0) 0 ∗ semVal (wCell c 1) 0 : sProp 𝕄) := by
  have e : (bigSep Finset.univ fun k : CK => semVal (kcell (c, k)) 0 : sProp 𝕄)
      = iprop(semVal (barCell c) 0 ∗ bigSep Finset.univ fun k : OK => semVal ((c : Thread nD τ), .dma (okSem k)) 0) := by
    rw [BI.bigSep_univ_sum, bigSep_one]; rfl
  rw [ownSems0_eq, unscopedSems0_eq, e]
  iintro ⟨⟨HS, HV⟩, HB⟩
  isplitl [HB HS]
  · isplitl [HB] <;> iassumption
  iexact HV

/-- One device's cells: invariants at names of its own. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ (payToks c ∗ semVal (wCell c 0) 0 ∗ semVal (wCell c 1) 0)) := by
  unfold G
  iintro ⟨Hos, Hus, Hst, Hat, Htok⟩
  ihave Hv := (sems0_eq (F := F) c) $$ [Hos Hus]
  · isplitl [Hos] <;> iassumption
  icases Hv with ⟨Hv, Hw⟩
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays with device `c`. -/
def linear (c : Dev nD) : sProp 𝕄 := iprop(poss c ∗ payToks c ∗ semVal (wCell c 0) 0 ∗ semVal (wCell c 1) 0)

theorem dealt_intro (K : Dev nD × CK → ℕ) (c : Dev nD) : iprop(recs m ρ K ∗ linear c) ⊢ dealt m ρ c := by
  unfold linear dealt
  iintro ⟨#HR, Hp, Ht, Hw⟩
  isplitr [Hw]
  · iexists K
    isplitr; · iexact HR
    isplitl [Hp] <;> iassumption
  iexact Hw

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ (payToks c ∗ semVal (wCell c 0) 0 ∗ semVal (wCell c 1) 0)) : sProp 𝕄)
      ⊢ bigSep Finset.univ (dealt m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  iapply (bigSep_with (R := recs m ρ K) fun c _ => dealt_intro m ρ K c)
  isplitr
  · unfold recs; rw [bigSep_sep']
    isplitl; · iexact HI
    iexact HR
  · iapply (Entails.of_eq (bigSep_sep' Finset.univ (poss (F := F)) (fun c : Dev nD => iprop(payToks c ∗ semVal (wCell c 0) 0 ∗ semVal (wCell c 1) 0))).symm)
    isplitl [Hat]; · iexact Hat
    iexact Htok

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The launch credit -/

/-- What device `c` is owed, by the cell it waits at. -/
def owedTo (c : Dev nD) : CellTallies nD τ sig Unit :=
  tallyAt (barCell c) () 31 + ∑ j ∈ Finset.univ.erase c, tallyAt (recvCell c j) () N

/-- A sum over pairs of different devices, taken the other way round. -/
theorem sum_pairs {A : Type} [AddCommMonoid A] (f : Dev nD → Dev nD → A) :
    (∑ d : Dev nD, ∑ x ∈ Finset.univ.erase d, f d x) = ∑ x : Dev nD, ∑ d ∈ Finset.univ.erase x, f d x :=
  Finset.sum_comm' fun d x => by simp only [Finset.mem_univ, Finset.mem_erase, true_and, and_true]; exact ne_comm

theorem sum_owed : (∑ d : Dev nD, O₀ d) = ∑ d : Dev nD, owedTo d := by
  have hs (d : Dev nD) (f : Dev nD → CellTallies nD τ sig Unit) : (∑ r : Fin 31, f (sendDev d r)) = ∑ x ∈ Finset.univ.erase d, f x := by
    rw [← image_sendDev, Finset.sum_image fun r _ r' _ h => sendDev_inj d h]
  have hb (d : Dev nD) (f : Dev nD → CellTallies nD τ sig Unit) : (∑ r : Fin 31, f (sigDev d r)) = ∑ x ∈ Finset.univ.erase d, f x := by
    rw [← image_sigDev, Finset.sum_image fun r _ r' _ h => sigDev_inj d h]
  have h (d : Dev nD) : O₀ d = (∑ x ∈ Finset.univ.erase d, tallyAt (recvCell x d) () N) + ∑ x ∈ Finset.univ.erase d, tallyAt (barCell x) () 1 := by
    unfold O₀ OW; rw [hs d fun x => tallyAt (recvCell x d) () N, hb d fun x => tallyAt (barCell x) () 1]
  unfold owedTo
  simp only [h]
  rw [Finset.sum_add_distrib, Finset.sum_add_distrib, sum_pairs fun d x => (tallyAt (recvCell x d) () N : CellTallies nD τ sig Unit),
    sum_pairs fun d x => (tallyAt (barCell x) () 1 : CellTallies nD τ sig Unit), add_comm]
  refine congrArg (· + _) (Finset.sum_congr rfl fun x _ => ?_)
  rw [sum_tallyAt_const, Finset.card_erase_of_mem (Finset.mem_univ x), Finset.card_univ, Fintype.card_fin]
  rfl

theorem owedTo_own (d : Dev nD) (g : GSem nD τ sig) (h : owedTo d g ≠ 0) : g.1 = (d.tc : Thread nD τ) := by
  by_contra hn
  refine h ?_
  unfold owedTo
  rw [Pi.add_apply, Finset.sum_apply, tallyAt_ne_cell (fun e => hn (by rw [e])), Finset.sum_eq_zero fun j _ => tallyAt_ne_cell (fun e => hn (by rw [e])) _ _, add_zero]

omit [FloatOps F] in
theorem cred_split {J : Type} [DecidableEq J] (s : Finset J) (f : J → CellTallies nD τ sig Unit) :
    (cred (∑ j ∈ s, f j) : sProp 𝕄) ⊢ bigSep s fun j => cred (f j) := by
  induction s using Finset.induction_on with
  | empty => rw [bigSep_empty]; iintro -; iempintro
  | insert a s ha ih =>
    rw [Finset.sum_insert ha, bigSep_insert ha]
    exact (cred_add _ _).1.trans (sep_mono_right ih)

omit [FloatOps F] in
theorem launch_creds (c : Dev nD) : (Pipeline.launchCred O₀ c : sProp 𝕄) ⊢ creds c := by
  rw [Pipeline.launchCred_of_sum O₀ owedTo sum_owed owedTo_own c]
  unfold owedTo creds
  exact (cred_add _ _).1.trans (sep_mono_right (cred_split _ _))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  rw [Pipeline.unscopedRestP_none, unscopedRest0_eq]
  iintro ⟨Hw, Hlev, Hcr, -, HG⟩
  ihave Hc := (launch_creds (F := F) c) $$ Hcr
  imodintro
  unfold start wAll
  isplitl
  · isplitl [HG]; · iexact HG
    isplitl [Hc]; · iexact Hc
    isplitl [Hlev] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyPts
  iintro ⟨Hs, -, Hr⟩
  isplitl [Hs] <;> iassumption

theorem phi1_exit (c : Dev nD) :
    (dats m ρ 0 c).Φ (Fin.last cfg0.N)
      ⊢ iprop((((c : Thread nD τ).loc main_arg1 ↦{fullShare} wAll m c) ∗ unscopedSems0 c) ∗ Pipeline.ownSems0 osem c ∗ Pipeline.scopedRest cfg0.spec c) := by
  rw [show (dats m ρ 0 c).Φ (Fin.last cfg0.N) = Φ₁ m c from rfl, scopedRest0_eq, ← sems_eq, unscopedSems0_eq]
  unfold Φ₁ bufs anyPts
  iintro ⟨⟨Hr, Hw⟩, Hs, Hz⟩
  isplitl [Hw Hz]; · isplitl [Hw] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (lt_trans (stage_val w s) (by decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What the run leaves: the staged arrays at the computed contents, the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_y (c : Dev nD) (s' : Phys nD τ sig (Elt F)) :
    iprop((((c : Thread nD τ).loc main_arg1 ↦{fullShare} wAll m c) ∗ unscopedSems0 c) ∗ (emp : sProp 𝕄) ∗ SI s')
      ⊢ |={Set.univ}=> iprop(⌜s'.mem.mem ((c : Thread nD τ).loc main_arg1) = m ((c : Thread nD τ).loc main_arg1)
          ∧ ∀ sm : SemLoc sig, sm.isScoped .tc = false → s'.mem.sem ((c.tc : Thread nD τ), sm) = 0⌝ ∗ SI s') := by
  iintro ⟨⟨Hw, Hu⟩, -, HSI⟩
  icombine HSI Hw gives %h
  imod (Pipeline.unscopedSems0_read (X := unscopedSems0 c) (c := c) fupd_intro s') $$ [Hu HSI] with ⟨%hu, HSI⟩
  · isplitl [Hu] <;> iassumption
  imodintro
  isplitr
  · ipureintro; exact ⟨Buf.eq_of_forall_mem_univ h, hu⟩
  iexact HSI

set_option maxRecDepth 8000 in
/-- On the mesh of 32 devices, for any float values, from any memory with zero counters: every weakly fair execution of
    @main terminates, and every final state has each device's result array at the computed contents, the arguments as they
    were and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_mesh m ρ) $$ HX with HG
      imodintro
      isplitl [HP] <;> iassumption)
    (hglob := glob m ρ)
    (hA := fun _ _ => rfl) (hpf := fun _ k => k.elim0)
    (X := start m ρ) (Y := fun c => iprop(((c : Thread nD τ).loc main_arg1 ↦{fullShare} wAll m c) ∗ unscopedSems0 c)) (Z := fun _ => iprop(emp))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := read_y m)
    (hQ := fun _ h hs => ⟨fun c => ⟨fun w => (h c).1 w, (h c).2.2.1⟩, sem_eq_zero hs fun c => (h c).2.2.2⟩)

/-- The block of `x` on a device after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The frame: the arguments end as they were, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (finalA_x m ρ c), (h.1 c).2⟩, h.2⟩) (run_main m ρ)

end Cert.KernelIdeal.Mesh
end
-- ==== Proof.RI.Value.lean ====
/-
The reference: what its one product leaves in the result, and, at the ideal instance, that product at an index.
-/
module

public import proofs.«01_k».proof.Proof.Gen.ReferenceIdeal.Run
public import Idealize.ShloMosaic.PureOps.Ideal
public import Idealize.ShloMosaic.Lib.ValueIdx
public import Idealize.ShloMosaic.Lib.Pipeline.Value
public import Idealize.ShloMosaic.Lib.Quiescent

@[expose] public section

noncomputable section

namespace Cert.ReferenceIdeal.Whole

open Cert.ReferenceIdeal Cert.ReferenceIdeal.Gen
open Idealize.ShloMosaic Idealize.ShloMosaic.TcCoe Idealize.ShloMosaic.ValueIdx
open Idealize.SL Idealize.SL.Sem
open scoped BigOperators

abbrev Dall := dot_S4096x4096_S4096x8192_S4096x8192_1_0_0_1_n_n

theorem all_lhs0 (j : S4096x8192.Idx) (k : Dall.contr.Idx) : (Dall.lhsIdx j k 0 : ℕ) = j 0 := by
  simp [DotDims.lhsIdx, Dall, dot_S4096x4096_S4096x8192_S4096x8192_1_0_0_1_n_n]; rfl
theorem all_lhs1 (j : S4096x8192.Idx) (k : Dall.contr.Idx) : (Dall.lhsIdx j k 1 : ℕ) = k ⟨0, by decide⟩ := by
  simp [DotDims.lhsIdx, Dall, dot_S4096x4096_S4096x8192_S4096x8192_1_0_0_1_n_n]; rfl
theorem all_rhs0 (j : S4096x8192.Idx) (k : Dall.contr.Idx) : (Dall.rhsIdx j k 0 : ℕ) = k ⟨0, by decide⟩ := by
  simp [DotDims.rhsIdx, Dall, dot_S4096x4096_S4096x8192_S4096x8192_1_0_0_1_n_n]; rfl
theorem all_rhs1 (j : S4096x8192.Idx) (k : Dall.contr.Idx) : (Dall.rhsIdx j k 1 : ℕ) = j 1 := by
  simp [DotDims.rhsIdx, Dall, dot_S4096x4096_S4096x8192_S4096x8192_1_0_0_1_n_n]; rfl

/-- The contraction's indices are the 4096 columns of `x`. -/
abbrev allEquiv : Dall.contr.Idx ≃ Fin 4096 := contrEquiv1 Dall 4096 (by decide) (by decide)

/-- The product of the whole arrays. -/
def whole {F : FTy → Type} [FloatOps F] (X : Vec F S4096x4096 .f32) (W : Vec F S4096x8192 .f32) : Vec F S4096x8192 .f32 :=
  Host.dotGeneral Dall none X W

/-- At the ideal instance its element `(i, j)` is the inner product of row `i` and column `j`. -/
theorem whole_apply (X : Vec Ideal S4096x4096 .f32) (W : Vec Ideal S4096x8192 .f32) (j : S4096x8192.Idx) :
    (whole X W j : EReal) = ∑ n : Fin 4096, (X (ix2 (j 0) n) : EReal) * (W (ix2 n (j 1)) : EReal) := by
  have h : (whole X W j : EReal) = 0 + ∑ k : Dall.contr.Idx, (X (Dall.lhsIdx j k) : EReal) * (W (Dall.rhsIdx j k) : EReal) := rfl
  rw [h, zero_add, ← Equiv.sum_comp allEquiv.symm]
  refine Finset.sum_congr rfl fun k _ => ?_
  congr 2
  · exact Shape.idx_ext₂ (all_lhs0 _ _) ((all_lhs1 _ _).trans (contrEquiv1_symm_val Dall 4096 _ _ k))
  · exact Shape.idx_ext₂ ((all_rhs0 _ _).trans (contrEquiv1_symm_val Dall 4096 _ _ k)) (all_rhs1 _ _)

variable {F : FTy → Type} [FloatOps F]

/-- The reference's frame: it declares no semaphore, so its counters are zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h c).2, sem_eq_zero_of_no_sems (by decide) _⟩) (Cert.ReferenceIdeal.Value.run m ρ)

end Cert.ReferenceIdeal.Whole
end
-- ==== Proof.KI.BlockValue.lean ====
/-
One block's product at the ideal instance, read at an index: the rounding casts are the identity there, so a block adds
the sum, over its 256 columns, of a gathered element times an element of `w`.
-/
module

public import proofs.«01_k».proof.Proof.KI.Content
public import Idealize.ShloMosaic.PureOps.Ideal
public import Idealize.ShloMosaic.Lib.ValueIdx

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The index (row, column) of an array of two axes. -/
abbrev at2 {a b : Nat} (i : Fin a) (j : Fin b) : (⟨2, ![a, b]⟩ : Shape).Idx := ix2 i j

abbrev Dblk := dot_S128x256_S256x8192_S128x8192_1_0_0_1_n_n

theorem blk_lhs0 (j : S128x8192.Idx) (k : Dblk.contr.Idx) : (Dblk.lhsIdx j k 0 : ℕ) = j 0 := by
  simp [DotDims.lhsIdx, Dblk, dot_S128x256_S256x8192_S128x8192_1_0_0_1_n_n]; rfl
theorem blk_lhs1 (j : S128x8192.Idx) (k : Dblk.contr.Idx) : (Dblk.lhsIdx j k 1 : ℕ) = k ⟨0, by decide⟩ := by
  simp [DotDims.lhsIdx, Dblk, dot_S128x256_S256x8192_S128x8192_1_0_0_1_n_n]; rfl
theorem blk_rhs0 (j : S128x8192.Idx) (k : Dblk.contr.Idx) : (Dblk.rhsIdx j k 0 : ℕ) = k ⟨0, by decide⟩ := by
  simp [DotDims.rhsIdx, Dblk, dot_S128x256_S256x8192_S128x8192_1_0_0_1_n_n]; rfl
theorem blk_rhs1 (j : S128x8192.Idx) (k : Dblk.contr.Idx) : (Dblk.rhsIdx j k 1 : ℕ) = j 1 := by
  simp [DotDims.rhsIdx, Dblk, dot_S128x256_S256x8192_S128x8192_1_0_0_1_n_n]; rfl

/-- The contraction's indices are the 256 columns of a block. -/
abbrev blkEquiv : Dblk.contr.Idx ≃ Fin 256 := contrEquiv1 Dblk 256 (by decide) (by decide)

theorem const_zero : Ideal.ofBits .f32 0x00000000#32 = 0 := by simp [Ideal.ofBits, Ideal.ieee]

/-- A block's contraction as a sum over its columns. -/
theorem blk_sum (A : S128x256.Idx → EReal) (B : S256x8192.Idx → EReal) (i : Fin 128) (j : Fin 8192) :
    (∑ k : Dblk.contr.Idx, A (Dblk.lhsIdx (at2 i j) k) * B (Dblk.rhsIdx (at2 i j) k)) = ∑ k : Fin 256, A (at2 i k) * B (at2 k j) := by
  rw [← Equiv.sum_comp blkEquiv.symm]
  refine Finset.sum_congr rfl fun k _ => ?_
  congr 2
  · exact Shape.idx_ext₂ (blk_lhs0 _ _) ((blk_lhs1 _ _).trans (contrEquiv1_symm_val Dblk 256 _ _ k))
  · exact Shape.idx_ext₂ ((blk_rhs0 _ _).trans (contrEquiv1_symm_val Dblk 256 _ _ k)) (blk_rhs1 _ _)

/-- A rounded chunk of `w` with its unit axis dropped is the chunk. -/
theorem chunk_apply (c : Dev nD) (r : Fin 16) (k : Fin 256) (j : Fin 8192) :
    shapeCast S256x8192 (castW (wChunk m c r)) shapeCasts_S1x256x8192_S256x8192 (at2 k j) = wAll m c (wIdx c r (at2 k j)) := by
  have h1 : castW (wChunk m c r) = shapeCast S1x256x8192 (shapeCast S256x8192 (wChunk m c r) shapeCasts_S1x256x8192_S256x8192) shapeCasts_S256x8192_S1x256x8192 := rfl
  rw [h1, shapeCast_shapeCast, shapeCast_dropUnit_apply]
  show wSq m c r _ = wSq m c r _
  refine congrArg _ ((Equiv.symm_apply_eq _).mpr ?_)
  exact (Shape.reshapeEquiv_cons_one _ _).symm

/-- The rounded block of `x` is the block of `x`. -/
theorem xb_apply (c : Dev nD) (i : S4096x128.Idx) : xb m ρ c i = xstg m ρ c i := by
  have h1 : xb m ρ c = shapeCast S4096x128 (shapeCast S4096x128 (xstg m ρ c) shapeCasts_S4096x128_S4096x128) shapeCasts_S4096x128_S4096x128 := rfl
  rw [h1, shapeCast_shapeCast]

/-- What block `r` of device `c` contributes at `(i, j)`. -/
def part (c : Dev nD) (r : Fin 16) (i : Fin 128) (j : Fin 8192) : EReal :=
  ∑ k : Fin 256, (aCol m ρ c r (at2 i k) : EReal) * (wAll m c (wIdx c r (at2 k j)) : EReal)

theorem prod_apply (c : Dev nD) (r : Fin 16) (i : Fin 128) (j : Fin 8192) :
    (prod (aCol m ρ c r) (castW (wChunk m c r)) (at2 i j) : EReal) = part m ρ c r i j := by
  have h : (prod (aCol m ρ c r) (castW (wChunk m c r)) (at2 i j) : EReal)
      = Ideal.ofBits .f32 0x00000000#32 + ∑ k : Dblk.contr.Idx, (aCol m ρ c r (Dblk.lhsIdx (at2 i j) k) : EReal)
        * (shapeCast S256x8192 (castW (wChunk m c r)) shapeCasts_S1x256x8192_S256x8192 (Dblk.rhsIdx (at2 i j) k) : EReal) := rfl
  rw [h, const_zero, zero_add, blk_sum (aCol m ρ c r)]
  exact Finset.sum_congr rfl fun k _ => congrArg _ (chunk_apply m c r k j)

theorem prodAdd_apply (c : Dev nD) (r : Fin 16) (o : Vec Ideal S128x8192 .f32) (i : Fin 128) (j : Fin 8192) :
    (prodAdd (aCol m ρ c r) (castW (wChunk m c r)) o (at2 i j) : EReal) = (o (at2 i j) : EReal) + part m ρ c r i j := by
  have h : (prodAdd (aCol m ρ c r) (castW (wChunk m c r)) o (at2 i j) : EReal)
      = (shapeCast S128x8192 o shapeCasts_S128x8192_S128x8192 (at2 i j) : EReal) + (prod (aCol m ρ c r) (castW (wChunk m c r)) (at2 i j) : EReal) := rfl
  rw [h, prod_apply, shapeCast_self]

/-- After `n + 1` blocks the output holds the sum of their parts. -/
theorem acc_apply (c : Dev nD) (i : Fin 128) (j : Fin 8192) (n : ℕ) :
    (acc m ρ c n (at2 i j) : EReal) = ∑ r ∈ Finset.range (n + 1), part m ρ c (Fin.ofNat 16 r) i j := by
  induction n with
  | zero => rw [Finset.sum_range_one]; exact prod_apply m ρ c 0 i j
  | succ n ih => rw [Finset.sum_range_succ, ← ih]; exact prodAdd_apply m ρ c _ _ i j

/-- The result: all sixteen parts. -/
theorem outAt_apply (c : Dev nD) (i : Fin 128) (j : Fin 8192) :
    (outAt m ρ c (at2 i j) : EReal) = ∑ r : Fin 16, part m ρ c r i j := by
  refine (acc_apply m ρ c i j 15).trans ?_
  rw [← Fin.sum_univ_eq_sum_range (fun r => part m ρ c (Fin.ofNat 16 r) i j) 16]
  exact Finset.sum_congr rfl fun r _ => by rw [show Fin.ofNat 16 r.val = r from Fin.ext (Nat.mod_eq_of_lt r.isLt)]

end Cert.KernelIdeal.Mesh
end
-- ==== Proof.KI.OutArray.lean ====
/-
The arrays: the blocks the body is given and leaves are the whole argument and result arrays, as there is one point.
-/
module

public import proofs.«01_k».proof.Proof.KI.Launch
public import Idealize.ShloMosaic.Lib.Pipeline.ValueKit

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.Sem
open scoped BigOperators

variable {F : FTy → Type} [FloatOps F]
variable (m : (ℓ : Loc nD τ sig) → Buf (Elt F) ℓ) (ρ : Dev nD → PrngReg)

theorem emb_in (i : S4096x128.Idx) : (win0_0.blk (0 : Fin 1)).view.emb i = i :=
  funext fun a => Fin.ext (by
    show 0 * S4096x128.size a + 1 * (i a).val = (i a).val
    omega)
theorem emb_out (i : S128x8192.Idx) : (win0_1.blk (0 : Fin 1)).view.emb i = i :=
  funext fun a => Fin.ext (by
    show 0 * S128x8192.size a + 1 * (i a).val = (i a).val
    omega)

/-- The block of `x` the body reads is device `c`'s argument. -/
theorem xstg_eq (c : Dev nD) (i : S4096x128.Idx) : xstg m ρ c i = m ((c : Thread nD τ).loc main_arg0) i := by
  unfold xstg
  rw [View.read_apply]
  exact congrArg (m ((c : Thread nD τ).loc main_arg0)) (emb_in i)

/-- The result array is what the body leaves in its output block. -/
theorem finalA_out (c : Dev nD) : finalA m ρ c (1 : Fin 2) = outAt m ρ c := by
  refine (dats m ρ 0 c).arrAt_eq_of_after_last (1 : Fin 2) t0_0 (by decide +kernel) _ fun j => ?_
  rfl

end Cert.KernelIdeal.Mesh
end
-- ==== Proof.KI.Equation.lean ====
/-
The equation: when device `c` holds its columns of `X` and a copy of `W`, the sixteen parts it adds up are the inner
products of its rows of `X` with the columns of `W`: the blocks visit every chunk of the contracted axis once.
-/
module

public import proofs.«01_k».proof.Proof.KI.BlockValue
public import proofs.«01_k».proof.Proof.KI.OutArray

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

theorem chunk_bij (c : Dev nD) : Function.Bijective (chunk c) :=
  Finite.injective_iff_bijective.mp fun r r' h => Fin.ext (by
    have h' : (c.val / 2 + r.val) % 16 = (c.val / 2 + r'.val) % 16 := congrArg Fin.val h
    have := r.isLt; have := r'.isLt; omega)

theorem row_lt (a : Fin 16) (k : Fin 256) : 256 * a.val + k.val < 4096 := by omega

/-- The chunks, in the order device `c` visits them, make up the contracted axis. -/
theorem sum_chunks (c : Dev nD) (f : Fin 4096 → EReal) :
    (∑ r : Fin 16, ∑ k : Fin 256, f ⟨256 * (chunk c r).val + k.val, row_lt _ k⟩) = ∑ n : Fin 4096, f n := by
  rw [(chunk_bij c).sum_comp fun a => ∑ k : Fin 256, f ⟨256 * a.val + k.val, row_lt a k⟩, ← Fintype.sum_prod_type']
  exact Fintype.sum_equiv (finProdFinEquiv (m := 16) (n := 256)) _ f fun p =>
    congrArg f (Fin.ext (Nat.add_comm _ _))

/-- A gathered element is the element of `X` in device `c`'s rows. -/
theorem aCol_apply (X : (⟨2, ![4096, 4096]⟩ : Shape).Idx → EReal)
    (hx : ∀ c : Dev nD, m ((c : Thread nD τ).loc main_arg0) = Layout.block ⟨2, ![4096, 128]⟩ ⟨2, ![4096, 4096]⟩ 1 32 c X)
    (c : Dev nD) (r : Fin 16) (i : Fin 128) (k : Fin 256) (hi : 128 * c.val + i.val < 4096) :
    (aCol m ρ c r (at2 i k) : EReal) = X (at2 ⟨128 * c.val + i.val, hi⟩ ⟨256 * (chunk c r).val + k.val, row_lt _ k⟩) := by
  have e : (colR c r).emb (at2 i k) = at2 i ⟨256 * (chunk c r).val + k.val, row_lt _ k⟩ := by
    refine Shape.idx_ext₂ ?_ ?_
    · show (k0_off11 c (BitVec.ofNat 32 r.val)) 0 + 1 * i.val = i.val
      rw [k0_off11_eq]
      show 0 + 1 * i.val = i.val
      omega
    · show (k0_off11 c (BitVec.ofNat 32 r.val)) 1 + 1 * k.val = 256 * ((c.val / 2 + r.val) % 16) + k.val
      rw [k0_off11_eq]
      show 256 * ((c.val / 2 + r.val) % 16) + 1 * k.val = _
      omega
  unfold aCol
  rw [e]
  unfold gath
  rw [xb_apply, xstg_eq, hx, Layout.block_apply]
  refine congrArg X (Shape.idx_ext₂ ?_ ?_)
  · rfl
  · show (256 * (chunk c r).val + k.val) / 128 * 128 + (256 * (chunk c r).val + k.val) % 128 = 256 * (chunk c r).val + k.val
    omega

/-- Device `c`'s result: its rows of `X` times `W`. -/
theorem outAt_eq (X : (⟨2, ![4096, 4096]⟩ : Shape).Idx → EReal) (W : S4096x8192.Idx → EReal)
    (hx : ∀ c : Dev nD, m ((c : Thread nD τ).loc main_arg0) = Layout.block ⟨2, ![4096, 128]⟩ ⟨2, ![4096, 4096]⟩ 1 32 c X)
    (hw : ∀ c : Dev nD, m ((c : Thread nD τ).loc main_arg1) = W)
    (c : Dev nD) (i : Fin 128) (j : Fin 8192) (hi : 128 * c.val + i.val < 4096) :
    @Eq EReal (outAt m ρ c (at2 i j)) (∑ n : Fin 4096, X (at2 ⟨128 * c.val + i.val, hi⟩ n) * W (at2 n j)) := by
  rw [outAt_apply, ← sum_chunks c]
  refine Finset.sum_congr rfl fun r _ => Finset.sum_congr rfl fun k _ => ?_
  rw [aCol_apply m ρ X hx c r i k hi]
  refine congrArg _ ?_
  show m ((c : Thread nD τ).loc main_arg1) (wIdx c r (at2 k j)) = _
  rw [hw c]
  exact congrArg W (Shape.idx_ext₂ rfl rfl)

end Cert.KernelIdeal.Mesh
end
-- ==== Proof.Agree.lean ====
/-
The two programs agree: device `c` of the kernel ends with block `c` of the reference's product.
-/
module

public import proofs.«01_k».proof.Proof.KI.Equation
public import proofs.«01_k».proof.Proof.RI.Value

@[expose] public section

noncomputable section

namespace Cert.Agree

open Idealize.ShloMosaic Idealize.ShloMosaic.TcCoe Idealize.ShloMosaic.ValueIdx
open Idealize.SL Idealize.SL.Sem
open Cert.KernelIdeal (nD τ sig main_arg0 main_arg1 main_v1)
open Cert.KernelIdeal.Mesh (outAt outAt_eq finalA finalA_x finalA_out dev_lt)
open Cert.ReferenceIdeal.Whole (whole whole_apply)

variable (m : (ℓ : Loc nD τ sig) → Buf (Elt Ideal) ℓ) (ρ : Dev nD → PrngReg)
variable (X : Vec Ideal Cert.ReferenceIdeal.S4096x4096 .f32) (W : Vec Ideal Cert.ReferenceIdeal.S4096x8192 .f32)

/-- Device `c`'s result is block `c` of the whole product. -/
theorem out_block
    (hx : ∀ c : Dev nD, m ((c : Thread nD τ).loc main_arg0) = Layout.block ⟨2, ![4096, 128]⟩ ⟨2, ![4096, 4096]⟩ 1 32 c X)
    (hw : ∀ c : Dev nD, m ((c : Thread nD τ).loc main_arg1) = W) (c : Dev nD) :
    outAt m ρ c = Layout.block ⟨2, ![128, 8192]⟩ ⟨2, ![4096, 8192]⟩ 0 32 c (whole X W) := by
  funext y
  obtain ⟨i, j, rfl⟩ : ∃ (i : Fin 128) (j : Fin 8192), y = ValueIdx.ix2 i j := ⟨y 0, y 1, ValueIdx.eq_ix2 y⟩
  have hi : 128 * c.val + i.val < 4096 := by have := dev_lt c; omega
  have e : ∀ h : Layout.Tiles ⟨2, ![128, 8192]⟩ ⟨2, ![4096, 8192]⟩ 0 32, h.idx c (ValueIdx.ix2 i j) = ValueIdx.ix2 (⟨128 * c.val + i.val, hi⟩ : Fin 4096) j := fun h =>
    Shape.idx_ext₂ ((Layout.idx_rows_val h c _).1.trans (by
      show c.val * 128 + i.val = 128 * c.val + i.val
      omega)) (Layout.idx_rows_val h c _).2
  rw [Layout.block_apply, e]
  have h1 := outAt_eq m ρ X W hx hw c i j hi
  have h2 := whole_apply X W (ValueIdx.ix2 (⟨128 * c.val + i.val, hi⟩ : Fin 4096) j)
  exact h1.trans h2.symm

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.RI.Value
public import proofs.«01_k».proof.Proof.Agree
public import Idealize.ShloMosaic.Adequacy
public import Idealize.ShloMosaic.Init

@[expose] public section

noncomputable section

namespace Cert.Proof

open Idealize.ShloMosaic Idealize.SL.Sem Cert.Kernel

open Cert.KernelIdeal.Mesh in
/-- The kernel and the reference compute the same product. -/
theorem algebraic : @Cert.algebraic_KernelIdeal_ReferenceIdeal Cert.KernelIdeal.Gen.facts Cert.ReferenceIdeal.Gen.facts := fun m g m' g' _ h =>
  ⟨Cert.ReferenceIdeal.Whole.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ hr c => ⟨((hr.1 c).1 1).trans ((finalA_out m g c).trans
        (Cert.Agree.out_block m g _ _ (fun c => (h c).1) (fun c => (h c).2) c)),
      ((hr.1 c).1 0).trans (finalA_x m g c), (hr.1 c).2⟩) (run_main m g),
    (θ_run _ _ _).mono (fun _ hr => hr 0) (Cert.ReferenceIdeal.Value.run m' g')⟩

theorem claim : Cert.Claim := ⟨Cert.Kernel.Gen.facts, Cert.KernelIdeal.Gen.facts, Cert.ReferenceIdeal.Gen.facts,
  fun m g _ => Cert.Kernel.Mesh.frame_main m g,
  fun m g _ => Cert.KernelIdeal.Mesh.frame_main m g,
  fun m g _ => Cert.ReferenceIdeal.Whole.frame_main m g,
  trivial,
  algebraic⟩

end Cert.Proof

end
